-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseReferenceIdeal (m : (ℓ : Loc Cert.QuantiseReferenceIdeal.nD Cert.QuantiseReferenceIdeal.τ Cert.QuantiseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1)
      ∧ r.2.mem ((c.tc : Thread Cert.Quantise.nD Cert.Quantise.τ).loc Cert.Quantise.main_arg2) = m ((c.tc : Thread Cert.Quantise.nD Cert.Quantise.τ).loc Cert.Quantise.main_arg2))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Quantise_QuantiseIdeal : Prop :=
  IdealRules.bf16_pair.Statement Cert.QuantiseIdeal.S1x128x2x128 Cert.QuantiseIdeal.S1x128x1x128
  ∧ IdealRules.bf16_pair.Statement Cert.QuantiseIdeal.S256x128 Cert.QuantiseIdeal.S128x128

def algebraic_QuantiseIdeal_QuantiseReferenceIdeal [hQuantiseIdeal : Cert.QuantiseIdeal.Facts] [hQuantiseReferenceIdeal : Cert.QuantiseReferenceIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)
      ∧ m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1)
      ∧ m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2)) →
    ∃ (v0 : (c : Dev Cert.QuantiseIdeal.nD) → Buf (Elt Ideal) ((c.tc : Thread Cert.QuantiseIdeal.nD Cert.QuantiseIdeal.τ).loc Cert.QuantiseIdeal.main_v0_0)) (v1 : (c : Dev Cert.QuantiseIdeal.nD) → Buf (Elt Ideal) ((c.tc : Thread Cert.QuantiseIdeal.nD Cert.QuantiseIdeal.τ).loc Cert.QuantiseIdeal.main_v0_1)) (v2 : (c : Dev Cert.QuantiseIdeal.nD) → Buf (Elt Ideal) ((c.tc : Thread Cert.QuantiseIdeal.nD Cert.QuantiseIdeal.τ).loc Cert.QuantiseIdeal.main_v0_2)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_1) = v1 c
          ∧ r.2.mem ((c.tc : Thread Cert.QuantiseIdeal.nD Cert.QuantiseIdeal.τ).loc Cert.QuantiseIdeal.main_v0_2) = v2 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
          ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v29) = v0 c
          ∧ r.2.mem ((c.tc : Thread Cert.QuantiseReferenceIdeal.nD Cert.QuantiseReferenceIdeal.τ).loc Cert.QuantiseReferenceIdeal.main_v25) = v1 c
          ∧ r.2.mem ((c.tc : Thread Cert.QuantiseReferenceIdeal.nD Cert.QuantiseReferenceIdeal.τ).loc Cert.QuantiseReferenceIdeal.main_v27) = v2 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0)
          ∧ r.2.mem ((c.tc : Thread Cert.QuantiseReferenceIdeal.nD Cert.QuantiseReferenceIdeal.τ).loc Cert.QuantiseReferenceIdeal.main_arg1) = m' ((c.tc : Thread Cert.QuantiseReferenceIdeal.nD Cert.QuantiseReferenceIdeal.τ).loc Cert.QuantiseReferenceIdeal.main_arg1)
          ∧ r.2.mem ((c.tc : Thread Cert.QuantiseReferenceIdeal.nD Cert.QuantiseReferenceIdeal.τ).loc Cert.QuantiseReferenceIdeal.main_arg2) = m' ((c.tc : Thread Cert.QuantiseReferenceIdeal.nD Cert.QuantiseReferenceIdeal.τ).loc Cert.QuantiseReferenceIdeal.main_arg2))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Quantise (hQuantise := hQuantise)
    ∧ quiescent_QuantiseIdeal (hQuantiseIdeal := hQuantiseIdeal)
    ∧ quiescent_QuantiseReferenceIdeal (hQuantiseReferenceIdeal := hQuantiseReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Quantise_QuantiseIdeal
    ∧ algebraic_QuantiseIdeal_QuantiseReferenceIdeal (hQuantiseIdeal := hQuantiseIdeal) (hQuantiseReferenceIdeal := hQuantiseReferenceIdeal)
-- ==== Pre_finite.lean ====
abbrev S12x18x16x128x128 : Shape := ⟨5, ![12, 18, 16, 128, 128]⟩
abbrev S12x18x16x128 : Shape := ⟨4, ![12, 18, 16, 128]⟩
abbrev S12x2x2304x128 : Shape := ⟨4, ![12, 2, 2304, 128]⟩
abbrev S12x2x36x128 : Shape := ⟨4, ![12, 2, 36, 128]⟩
abbrev S12x2x128x2304 : Shape := ⟨4, ![12, 2, 128, 2304]⟩
abbrev S_ : Shape := ⟨0, ![]⟩
abbrev S12x2x36x1 : Shape := ⟨4, ![12, 2, 36, 1]⟩

class Facts : Prop where
  bcast_S_S12x18x16x128x128 : S_.BroadcastsInDim S12x18x16x128x128 (![] : Fin 0 → Fin S12x18x16x128x128.rank)
  bcast_S_S12x18x16x128 : S_.BroadcastsInDim S12x18x16x128 (![] : Fin 0 → Fin S12x18x16x128.rank)
  bcast_S_S12x2x2304x128 : S_.BroadcastsInDim S12x2x2304x128 (![] : Fin 0 → Fin S12x2x2304x128.rank)
  slices_S12x2x36x128_S12x2x36x1_0_0_0_0 : S12x2x36x128.Slices ![0, 0, 0, 0] S12x2x36x1
  bcast_S_S12x2x36x1 : S_.BroadcastsInDim S12x2x36x1 (![] : Fin 0 → Fin S12x2x36x1.rank)

variable [Facts]

def fn {F : FTy → Type} [FloatOps F] (main_arg0 : FVec F S12x18x16x128x128 .bf16) (main_arg1 : FVec F S12x18x16x128 .f32) (main_arg2 : FVec F S12x2x2304x128 .bf16) (main_arg3 : FVec F S12x2x36x128 .f32) (main_arg4 : FVec F S12x2x128x2304 .bf16) : IVec S12x18x16x128x128 1 × IVec S12x18x16x128 1 × IVec S12x2x2304x128 1 × IVec S12x2x36x1 1 :=
  let main_v0 : FVec F S12x18x16x128x128 .bf16 := Host.absf main_arg0
  let main_cst : FVec F S_ .bf16 := constant S_ .bf16 0x7F80#16
  let main_v1 : FVec F S12x18x16x128x128 .bf16 := broadcastInDim S12x18x16x128x128 ![] bcast_S_S12x18x16x128x128 main_cst
  let main_v2 : IVec S12x18x16x128x128 1 := cmpf .olt main_v0 main_v1
  let main_v3 : FVec F S12x18x16x128 .f32 := Host.absf main_arg1
  let main_cst_0 : FVec F S_ .f32 := constant S_ .f32 0x7F800000#32
  let main_v4 : FVec F S12x18x16x128 .f32 := broadcastInDim S12x18x16x128 ![] bcast_S_S12x18x16x128 main_cst_0
  let main_v5 : IVec S12x18x16x128 1 := cmpf .olt main_v3 main_v4
  let main_v6 : FVec F S12x2x2304x128 .bf16 := Host.absf main_arg2
  let main_cst_1 : FVec F S_ .bf16 := constant S_ .bf16 0x7F80#16
  let main_v7 : FVec F S12x2x2304x128 .bf16 := broadcastInDim S12x2x2304x128 ![] bcast_S_S12x2x2304x128 main_cst_1
  let main_v8 : IVec S12x2x2304x128 1 := cmpf .olt main_v6 main_v7
  let main_v9 : FVec F S12x2x36x1 .f32 := (extractStridedSlice S12x2x36x1 ![0, 0, 0, 0] · slices_S12x2x36x128_S12x2x36x1_0_0_0_0) main_arg3
  let main_v10 : FVec F S12x2x36x1 .f32 := Host.absf main_v9
  let main_cst_2 : FVec F S_ .f32 := constant S_ .f32 0x7F800000#32
  let main_v11 : FVec F S12x2x36x1 .f32 := broadcastInDim S12x2x36x1 ![] bcast_S_S12x2x36x1 main_cst_2
  let main_v12 : IVec S12x2x36x1 1 := cmpf .olt main_v10 main_v11
  (main_v2, main_v5, main_v8, main_v12)
-- ==== Kernel.lean ====
abbrev S12x18x16x128x128 : Shape := ⟨5, ![12, 18, 16, 128, 128]⟩
abbrev S12x18x16x128 : Shape := ⟨4, ![12, 18, 16, 128]⟩
abbrev S12x2x2304x128 : Shape := ⟨4, ![12, 2, 2304, 128]⟩
abbrev S12x2x36x128 : Shape := ⟨4, ![12, 2, 36, 128]⟩
abbrev S12x2x128x2304 : Shape := ⟨4, ![12, 2, 128, 2304]⟩
abbrev S12x2304x2048 : Shape := ⟨3, ![12, 2304, 2048]⟩
abbrev S1x1x8x128x128 : Shape := ⟨5, ![1, 1, 8, 128, 128]⟩
abbrev S1x1x8x128 : Shape := ⟨4, ![1, 1, 8, 128]⟩
abbrev S1x1x2304x128 : Shape := ⟨4, ![1, 1, 2304, 128]⟩
abbrev S1x1x36x128 : Shape := ⟨4, ![1, 1, 36, 128]⟩
abbrev S1x1x128x2304 : Shape := ⟨4, ![1, 1, 128, 2304]⟩
abbrev S1x128x1024 : Shape := ⟨3, ![1, 128, 1024]⟩
abbrev S8x128x128 : Shape := ⟨3, ![8, 128, 128]⟩
abbrev S1024x128 : Shape := ⟨2, ![1024, 128]⟩
abbrev S8x128 : Shape := ⟨2, ![8, 128]⟩
abbrev S1x128 : Shape := ⟨2, ![1, 128]⟩
abbrev S1x1024 : Shape := ⟨2, ![1, 1024]⟩
abbrev S128x1024 : Shape := ⟨2, ![128, 1024]⟩
abbrev S1x1x128x128 : Shape := ⟨4, ![1, 1, 128, 128]⟩
abbrev S128x128 : Shape := ⟨2, ![128, 128]⟩
abbrev S1x1x1x128 : Shape := ⟨4, ![1, 1, 1, 128]⟩
abbrev S1x1 : Shape := ⟨2, ![1, 1]⟩
abbrev S64x1024 : Shape := ⟨2, ![64, 1024]⟩
abbrev S1024 : Shape := ⟨1, ![1024]⟩
abbrev S1x128x128 : Shape := ⟨3, ![1, 128, 128]⟩

abbrev nBuf : Space → Nat
  | .hbm => 6
  | .vmem => 12
  | .smem => 0
  | _ => 0

abbrev bufTy : (tb : Table) → Fin (tcTables nBuf tb) → BufTy
  | .hbm, ⟨0, _⟩ => ⟨S12x18x16x128x128, .bf16⟩
  | .hbm, ⟨1, _⟩ => ⟨S12x18x16x128, .f32⟩
  | .hbm, ⟨2, _⟩ => ⟨S12x2x2304x128, .bf16⟩
  | .hbm, ⟨3, _⟩ => ⟨S12x2x36x128, .f32⟩
  | .hbm, ⟨4, _⟩ => ⟨S12x2x128x2304, .bf16⟩
  | .hbm, ⟨5, _⟩ => ⟨S12x2304x2048, .bf16⟩
  | .local _ .vmem, ⟨0, _⟩ => ⟨S1x1x8x128x128, .bf16⟩
  | .local _ .vmem, ⟨1, _⟩ => ⟨S1x1x8x128x128, .bf16⟩
  | .local _ .vmem, ⟨2, _⟩ => ⟨S1x1x8x128, .f32⟩
  | .local _ .vmem, ⟨3, _⟩ => ⟨S1x1x8x128, .f32⟩
  | .local _ .vmem, ⟨4, _⟩ => ⟨S1x1x2304x128, .bf16⟩
  | .local _ .vmem, ⟨5, _⟩ => ⟨S1x1x2304x128, .bf16⟩
  | .local _ .vmem, ⟨6, _⟩ => ⟨S1x1x36x128, .f32⟩
  | .local _ .vmem, ⟨7, _⟩ => ⟨S1x1x36x128, .f32⟩
  | .local _ .vmem, ⟨8, _⟩ => ⟨S1x1x128x2304, .bf16⟩
  | .local _ .vmem, ⟨9, _⟩ => ⟨S1x1x128x2304, .bf16⟩
  | .local _ .vmem, ⟨10, _⟩ => ⟨S1x128x1024, .bf16⟩
  | .local _ .vmem, ⟨11, _⟩ => ⟨S1x128x1024, .bf16⟩
  | _, _ => ⟨S12x18x16x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![12, 2, 18], ![false, false, false]⟩

def k0_mult1 (i : grid0.Coords) : BitVec 32 :=
  let arg2 : BitVec 32 := BitVec.ofNat 32 (i 2).val
  let c128_i32 : BitVec 32 := 128#32
  let v19 : BitVec 32 := Scalar.muli arg2 c128_i32
  v19
def k0_off1 (i : grid0.Coords) : Fin 4 → Nat :=
  let c0_11 : Index := 0#32
  let c0_12 : Index := 0#32
  let arg2 : BitVec 32 := BitVec.ofNat 32 (i 2).val
  let c128_i32 : BitVec 32 := 128#32
  let v19 : BitVec 32 := Scalar.muli arg2 c128_i32
  let v20 : BitVec 32 := v19
  let v21 : Index := Scalar.indexCast v20
  let c0_13 : Index := 0#32
  ![0, 0, v21.toNat, 0]
def k0_off2 (i : grid0.Coords) (c0_i32 : BitVec 32) : Fin 4 → Nat :=
  let c0_15 : Index := 0#32
  let c0_16 : Index := 0#32
  let arg2 : BitVec 32 := BitVec.ofNat 32 (i 2).val
  let c2_i32 : BitVec 32 := 2#32
  let v25 : BitVec 32 := Scalar.muli arg2 c2_i32
  let v26 : BitVec 32 := Scalar.addi v25 c0_i32
  let v27 : Index := Scalar.indexCast v26
  let c0_17 : Index := 0#32
  ![0, 0, v27.toNat, 0]
def k0_off3 (i : grid0.Coords) : Fin 4 → Nat :=
  let c0_25 : Index := 0#32
  let c0_26 : Index := 0#32
  let c0_27 : Index := 0#32
  let arg2 : BitVec 32 := BitVec.ofNat 32 (i 2).val
  let c128_i32 : BitVec 32 := 128#32
  let v19 : BitVec 32 := Scalar.muli arg2 c128_i32
  let v20 : BitVec 32 := v19
  let v67 : Index := Scalar.indexCast v20
  ![0, 0, 0, v67.toNat]
@[reducible] def k0_t1_loop (i : grid0.Coords) : Scf.Loop 32 :=
  let c0_i32_29 : BitVec 32 := 0#32
  let arg2 : BitVec 32 := BitVec.ofNat 32 (i 2).val
  let v75 : BitVec 32 := Scalar.subi arg2 c0_i32_29
  let c1_i32_30 : BitVec 32 := 1#32
  let v77 : BitVec 32 := Scalar.divsi v75 c1_i32_30
  let v78 : BitVec 32 := Scalar.muli v77 c1_i32_30
  let v79 : BitVec 32 := Scalar.addi c0_i32_29 v78
  let c1_i32_31 : BitVec 32 := 1#32
  ⟨c0_i32_29, v79, c1_i32_31⟩
def k0_mult2 (i : grid0.Coords) (k0_t1 : Fin (k0_t1_loop i).trips) : BitVec 32 :=
  let c0_i32_29 : BitVec 32 := 0#32
  let c1_i32_31 : BitVec 32 := 1#32
  let arg9 : BitVec 32 := Scf.iv c0_i32_29 c1_i32_31 k0_t1
  let c128_i32_50 : BitVec 32 := 128#32
  let v132 : BitVec 32 := Scalar.muli arg9 c128_i32_50
  v132
def k0_off4 (i : grid0.Coords) (k0_t1 : Fin (k0_t1_loop i).trips) : Fin 4 → Nat :=
  let c0_51 : Index := 0#32
  let c0_52 : Index := 0#32
  let c0_i32_29 : BitVec 32 := 0#32
  let c1_i32_31 : BitVec 32 := 1#32
  let arg9 : BitVec 32 := Scf.iv c0_i32_29 c1_i32_31 k0_t1
  let c128_i32_50 : BitVec 32 := 128#32
  let v132 : BitVec 32 := Scalar.muli arg9 c128_i32_50
  let v133 : BitVec 32 := v132
  let v134 : Index := Scalar.indexCast v133
  let c0_53 : Index := 0#32
  ![0, 0, v134.toNat, 0]
def k0_off5 (i : grid0.Coords) (k0_t1 : Fin (k0_t1_loop i).trips) (c0_i32_56 : BitVec 32) : Fin 4 → Nat :=
  let c0_57 : Index := 0#32
  let c0_58 : Index := 0#32
  let c0_i32_29 : BitVec 32 := 0#32
  let c1_i32_31 : BitVec 32 := 1#32
  let arg9 : BitVec 32 := Scf.iv c0_i32_29 c1_i32_31 k0_t1
  let c2_i32_55 : BitVec 32 := 2#32
  let v138 : BitVec 32 := Scalar.muli arg9 c2_i32_55
  let v139 : BitVec 32 := Scalar.addi v138 c0_i32_56
  let v140 : Index := Scalar.indexCast v139
  let c0_59 : Index := 0#32
  ![0, 0, v140.toNat, 0]
def k0_off6 (i : grid0.Coords) (k0_t1 : Fin (k0_t1_loop i).trips) : Fin 4 → Nat :=
  let c0_67 : Index := 0#32
  let c0_68 : Index := 0#32
  let c0_69 : Index := 0#32
  let c0_i32_29 : BitVec 32 := 0#32
  let c1_i32_31 : BitVec 32 := 1#32
  let arg9 : BitVec 32 := Scf.iv c0_i32_29 c1_i32_31 k0_t1
  let c128_i32_50 : BitVec 32 := 128#32
  let v132 : BitVec 32 := Scalar.muli arg9 c128_i32_50
  let v133 : BitVec 32 := v132
  let v173 : Index := Scalar.indexCast v133
  ![0, 0, 0, v173.toNat]
@[reducible] def k0_t2_loop (i : grid0.Coords) : Scf.Loop 32 :=
  let c0_i32_29 : BitVec 32 := 0#32
  let arg2 : BitVec 32 := BitVec.ofNat 32 (i 2).val
  let v75 : BitVec 32 := Scalar.subi arg2 c0_i32_29
  let c1_i32_30 : BitVec 32 := 1#32
  let v77 : BitVec 32 := Scalar.divsi v75 c1_i32_30
  let v78 : BitVec 32 := Scalar.muli v77 c1_i32_30
  let v79 : BitVec 32 := Scalar.addi c0_i32_29 v78
  let v76 : BitVec 32 := Scalar.addi c0_i32_29 v75
  let c1_i32_32 : BitVec 32 := 1#32
  ⟨v79, v76, c1_i32_32⟩
def k0_mult3 (i : grid0.Coords) (k0_t2 : Fin (k0_t2_loop i).trips) : BitVec 32 :=
  let c0_i32_29 : BitVec 32 := 0#32
  let arg2 : BitVec 32 := BitVec.ofNat 32 (i 2).val
  let v75 : BitVec 32 := Scalar.subi arg2 c0_i32_29
  let c1_i32_30 : BitVec 32 := 1#32
  let v77 : BitVec 32 := Scalar.divsi v75 c1_i32_30
  let v78 : BitVec 32 := Scalar.muli v77 c1_i32_30
  let v79 : BitVec 32 := Scalar.addi c0_i32_29 v78
  let c1_i32_32 : BitVec 32 := 1#32
  let arg9 : BitVec 32 := Scf.iv v79 c1_i32_32 k0_t2
  let c128_i32_50 : BitVec 32 := 128#32
  let v132 : BitVec 32 := Scalar.muli arg9 c128_i32_50
  v132
def k0_off7 (i : grid0.Coords) (k0_t2 : Fin (k0_t2_loop i).trips) : Fin 4 → Nat :=
  let c0_51 : Index := 0#32
  let c0_52 : Index := 0#32
  let c0_i32_29 : BitVec 32 := 0#32
  let arg2 : BitVec 32 := BitVec.ofNat 32 (i 2).val
  let v75 : BitVec 32 := Scalar.subi arg2 c0_i32_29
  let c1_i32_30 : BitVec 32 := 1#32
  let v77 : BitVec 32 := Scalar.divsi v75 c1_i32_30
  let v78 : BitVec 32 := Scalar.muli v77 c1_i32_30
  let v79 : BitVec 32 := Scalar.addi c0_i32_29 v78
  let c1_i32_32 : BitVec 32 := 1#32
  let arg9 : BitVec 32 := Scf.iv v79 c1_i32_32 k0_t2
  let c128_i32_50 : BitVec 32 := 128#32
  let v132 : BitVec 32 := Scalar.muli arg9 c128_i32_50
  let v133 : BitVec 32 := v132
  let v134 : Index := Scalar.indexCast v133
  let c0_53 : Index := 0#32
  ![0, 0, v134.toNat, 0]
def k0_off8 (i : grid0.Coords) (k0_t2 : Fin (k0_t2_loop i).trips) (c0_i32_56 : BitVec 32) : Fin 4 → Nat :=
  let c0_57 : Index := 0#32
  let c0_58 : Index := 0#32
  let c0_i32_29 : BitVec 32 := 0#32
  let arg2 : BitVec 32 := BitVec.ofNat 32 (i 2).val
  let v75 : BitVec 32 := Scalar.subi arg2 c0_i32_29
  let c1_i32_30 : BitVec 32 := 1#32
  let v77 : BitVec 32 := Scalar.divsi v75 c1_i32_30
  let v78 : BitVec 32 := Scalar.muli v77 c1_i32_30
  let v79 : BitVec 32 := Scalar.addi c0_i32_29 v78
  let c1_i32_32 : BitVec 32 := 1#32
  let arg9 : BitVec 32 := Scf.iv v79 c1_i32_32 k0_t2
  let c2_i32_55 : BitVec 32 := 2#32
  let v138 : BitVec 32 := Scalar.muli arg9 c2_i32_55
  let v139 : BitVec 32 := Scalar.addi v138 c0_i32_56
  let v140 : Index := Scalar.indexCast v139
  let c0_59 : Index := 0#32
  ![0, 0, v140.toNat, 0]
def k0_off9 (i : grid0.Coords) (k0_t2 : Fin (k0_t2_loop i).trips) : Fin 4 → Nat :=
  let c0_67 : Index := 0#32
  let c0_68 : Index := 0#32
  let c0_69 : Index := 0#32
  let c0_i32_29 : BitVec 32 := 0#32
  let arg2 : BitVec 32 := BitVec.ofNat 32 (i 2).val
  let v75 : BitVec 32 := Scalar.subi arg2 c0_i32_29
  let c1_i32_30 : BitVec 32 := 1#32
  let v77 : BitVec 32 := Scalar.divsi v75 c1_i32_30
  let v78 : BitVec 32 := Scalar.muli v77 c1_i32_30
  let v79 : BitVec 32 := Scalar.addi c0_i32_29 v78
  let c1_i32_32 : BitVec 32 := 1#32
  let arg9 : BitVec 32 := Scf.iv v79 c1_i32_32 k0_t2
  let c128_i32_50 : BitVec 32 := 128#32
  let v132 : BitVec 32 := Scalar.muli arg9 c128_i32_50
  let v133 : BitVec 32 := v132
  let v173 : Index := Scalar.indexCast v133
  ![0, 0, 0, v173.toNat]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x36x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S12x18x16x128x128 : Shape := ⟨5, ![12, 18, 16, 128, 128]⟩
abbrev S12x18x16x128 : Shape := ⟨4, ![12, 18, 16, 128]⟩
abbrev S12x2x2304x128 : Shape := ⟨4, ![12, 2, 2304, 128]⟩
abbrev S12x2x36x128 : Shape := ⟨4, ![12, 2, 36, 128]⟩
abbrev S12x2x128x2304 : Shape := ⟨4, ![12, 2, 128, 2304]⟩
abbrev S12x16x18x128x128 : Shape := ⟨5, ![12, 16, 18, 128, 128]⟩
abbrev S12x2x8x2304x128 : Shape := ⟨5, ![12, 2, 8, 2304, 128]⟩
abbrev S12x16x18x128 : Shape := ⟨4, ![12, 16, 18, 128]⟩
abbrev S12x2x8x2304 : Shape := ⟨4, ![12, 2, 8, 2304]⟩
abbrev S12x2x36x1 : Shape := ⟨4, ![12, 2, 36, 1]⟩
abbrev S12x2x36 : Shape := ⟨3, ![12, 2, 36]⟩
abbrev S12x2x36x64 : Shape := ⟨4, ![12, 2, 36, 64]⟩
abbrev S12x2x2304 : Shape := ⟨3, ![12, 2, 2304]⟩
abbrev S12x2x8x2304x2304 : Shape := ⟨5, ![12, 2, 8, 2304, 2304]⟩
abbrev S12x2x8x2304x1 : Shape := ⟨5, ![12, 2, 8, 2304, 1]⟩
abbrev S12x2x1x1x2304 : Shape := ⟨5, ![12, 2, 1, 1, 2304]⟩
abbrev S_ : Shape := ⟨0, ![]⟩
abbrev S2304 : Shape := ⟨1, ![2304]⟩
abbrev S1x2304 : Shape := ⟨2, ![1, 2304]⟩
abbrev S2304x1 : Shape := ⟨2, ![2304, 1]⟩
abbrev S2304x2304 : Shape := ⟨2, ![2304, 2304]⟩
abbrev S12x2304x2x8x128 : Shape := ⟨5, ![12, 2304, 2, 8, 128]⟩
abbrev S12x2304x2048 : Shape := ⟨3, ![12, 2304, 2048]⟩

abbrev nBuf : Space → Nat
  | .hbm => 54
  | .vmem => 0
  | .smem => 0
  | _ => 0

abbrev bufTy : (tb : Table) → Fin (tcTables nBuf tb) → BufTy
  | .hbm, ⟨0, _⟩ => ⟨S12x18x16x128x128, .bf16⟩
  | .hbm, ⟨1, _⟩ => ⟨S12x18x16x128, .f32⟩
  | .hbm, ⟨2, _⟩ => ⟨S12x2x2304x128, .bf16⟩
  | .hbm, ⟨3, _⟩ => ⟨S12x2x36x128, .f32⟩
  | .hbm, ⟨4, _⟩ => ⟨S12x2x128x2304, .bf16⟩
  | .hbm, ⟨5, _⟩ => ⟨S12x16x18x128x128, .bf16⟩
  | .hbm, ⟨6, _⟩ => ⟨S12x2x8x2304x128, .bf16⟩
  | .hbm, ⟨7, _⟩ => ⟨S12x16x18x128, .f32⟩
  | .hbm, ⟨8, _⟩ => ⟨S12x2x8x2304, .f32⟩
  | .hbm, ⟨9, _⟩ => ⟨S12x2x36x1, .f32⟩
  | .hbm, ⟨10, _⟩ => ⟨S12x2x36, .f32⟩
  | .hbm, ⟨11, _⟩ => ⟨S12x2x36x64, .f32⟩
  | .hbm, ⟨12, _⟩ => ⟨S12x2x2304, .f32⟩
  | .hbm, ⟨13, _⟩ => ⟨S12x2x8x2304x2304, .f32⟩
  | .hbm, ⟨14, _⟩ => ⟨S12x2x8x2304x1, .f32⟩
  | .hbm, ⟨15, _⟩ => ⟨S12x2x8x2304x2304, .f32⟩
  | .hbm, ⟨16, _⟩ => ⟨S12x2x8x2304x2304, .f32⟩
  | .hbm, ⟨17, _⟩ => ⟨S12x2x1x1x2304, .f32⟩
  | .hbm, ⟨18, _⟩ => ⟨S12x2x8x2304x2304, .f32⟩
  | .hbm, ⟨19, _⟩ => ⟨S12x2x8x2304x2304, .f32⟩
  | .hbm, ⟨20, _⟩ => ⟨S_, .f32⟩
  | .hbm, ⟨21, _⟩ => ⟨S12x2x8x2304x2304, .f32⟩
  | .hbm, ⟨22, _⟩ => ⟨S12x2x8x2304x2304, .f32⟩
  | .hbm, ⟨23, _⟩ => ⟨S2304, .i32⟩
  | .hbm, ⟨24, _⟩ => ⟨S1x2304, .i32⟩
  | .hbm, ⟨25, _⟩ => ⟨S2304, .i32⟩
  | .hbm, ⟨26, _⟩ => ⟨S2304x1, .i32⟩
  | .hbm, ⟨27, _⟩ => ⟨S2304x2304, .i32⟩
  | .hbm, ⟨28, _⟩ => ⟨S2304x2304, .i32⟩
  | .hbm, ⟨29, _⟩ => ⟨S2304x2304, .i1⟩
  | .hbm, ⟨30, _⟩ => ⟨S_, .f32⟩
  | .hbm, ⟨31, _⟩ => ⟨S_, .f32⟩
  | .hbm, ⟨32, _⟩ => ⟨S12x2x8x2304x2304, .i1⟩
  | .hbm, ⟨33, _⟩ => ⟨S12x2x8x2304x2304, .f32⟩
  | .hbm, ⟨34, _⟩ => ⟨S12x2x8x2304x2304, .f32⟩
  | .hbm, ⟨35, _⟩ => ⟨S_, .f32⟩
  | .hbm, ⟨36, _⟩ => ⟨S12x2x8x2304, .f32⟩
  | .hbm, ⟨37, _⟩ => ⟨S_, .f32⟩
  | .hbm, ⟨38, _⟩ => ⟨S12x2x8x2304, .f32⟩
  | .hbm, ⟨39, _⟩ => ⟨S12x2x8x2304, .f32⟩
  | .hbm, ⟨40, _⟩ => ⟨S12x2x8x2304x1, .f32⟩
  | .hbm, ⟨41, _⟩ => ⟨S12x2x8x2304x2304, .f32⟩
  | .hbm, ⟨42, _⟩ => ⟨S12x2x8x2304x2304, .f32⟩
  | .hbm, ⟨43, _⟩ => ⟨S12x2x8x2304x2304, .f32⟩
  | .hbm, ⟨44, _⟩ => ⟨S_, .f32⟩
  | .hbm, ⟨45, _⟩ => ⟨S12x2x8x2304, .f32⟩
  | .hbm, ⟨46, _⟩ => ⟨S12x2x8x2304x1, .f32⟩
  | .hbm, ⟨47, _⟩ => ⟨S12x2x8x2304x2304, .f32⟩
  | .hbm, ⟨48, _⟩ => ⟨S12x2x8x2304x2304, .f32⟩
  | .hbm, ⟨49, _⟩ => ⟨S12x2x8x2304x2304, .bf16⟩
  | .hbm, ⟨50, _⟩ => ⟨S12x2x8x2304x128, .f32⟩
  | .hbm, ⟨51, _⟩ => ⟨S12x2x8x2304x128, .bf16⟩
  | .hbm, ⟨52, _⟩ => ⟨S12x2304x2x8x128, .bf16⟩
  | .hbm, ⟨53, _⟩ => ⟨S12x2304x2048, .bf16⟩
  | _, _ => ⟨S12x18x16x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Quantise.lean ====
abbrev S12x2304x16x128 : Shape := ⟨4, ![12, 2304, 16, 128]⟩
abbrev S12x2304x128 : Shape := ⟨3, ![12, 2304, 128]⟩
abbrev S12x18x16x128 : Shape := ⟨4, ![12, 18, 16, 128]⟩
abbrev S12x18x16x128x128 : Shape := ⟨5, ![12, 18, 16, 128, 128]⟩
abbrev S1x128x16x128 : Shape := ⟨4, ![1, 128, 16, 128]⟩
abbrev S1x128x128 : Shape := ⟨3, ![1, 128, 128]⟩
abbrev S1x1x16x128 : Shape := ⟨4, ![1, 1, 16, 128]⟩
abbrev S1x1x16x128x128 : Shape := ⟨5, ![1, 1, 16, 128, 128]⟩
abbrev S16x128x128 : Shape := ⟨3, ![16, 128, 128]⟩
abbrev S128x128 : Shape := ⟨2, ![128, 128]⟩
abbrev S1x128x8x128 : Shape := ⟨4, ![1, 128, 8, 128]⟩
abbrev S1024x128 : Shape := ⟨2, ![1024, 128]⟩
abbrev S1x128x2x128 : Shape := ⟨4, ![1, 128, 2, 128]⟩
abbrev S1x128x1x128 : Shape := ⟨4, ![1, 128, 1, 128]⟩
abbrev S128 : Shape := ⟨1, ![128]⟩
abbrev S1x128 : Shape := ⟨2, ![1, 128]⟩
abbrev S16x128 : Shape := ⟨2, ![16, 128]⟩
abbrev S16 : Shape := ⟨1, ![16]⟩
abbrev S16x1 : Shape := ⟨2, ![16, 1]⟩
abbrev S1x1x1x128x128 : Shape := ⟨5, ![1, 1, 1, 128, 128]⟩
abbrev S128x1x128 : Shape := ⟨3, ![128, 1, 128]⟩
abbrev S128x4x128 : Shape := ⟨3, ![128, 4, 128]⟩
abbrev S1x128x4x128 : Shape := ⟨4, ![1, 128, 4, 128]⟩

abbrev nBuf : Space → Nat
  | .hbm => 6
  | .vmem => 13
  | .smem => 0
  | _ => 0

abbrev bufTy : (tb : Table) → Fin (tcTables nBuf tb) → BufTy
  | .hbm, ⟨0, _⟩ => ⟨S12x2304x16x128, .bf16⟩
  | .hbm, ⟨1, _⟩ => ⟨S12x2304x128, .f32⟩
  | .hbm, ⟨2, _⟩ => ⟨S12x2304x128, .f32⟩
  | .hbm, ⟨3, _⟩ => ⟨S12x2304x16x128, .i8⟩
  | .hbm, ⟨4, _⟩ => ⟨S12x18x16x128, .f32⟩
  | .hbm, ⟨5, _⟩ => ⟨S12x18x16x128x128, .bf16⟩
  | .local _ .vmem, ⟨0, _⟩ => ⟨S1x128x16x128, .bf16⟩
  | .local _ .vmem, ⟨1, _⟩ => ⟨S1x128x16x128, .bf16⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x16x128, .i8⟩
  | .local _ .vmem, ⟨7, _⟩ => ⟨S1x128x16x128, .i8⟩
  | .local _ .vmem, ⟨8, _⟩ => ⟨S1x1x16x128, .f32⟩
  | .local _ .vmem, ⟨9, _⟩ => ⟨S1x1x16x128, .f32⟩
  | .local _ .vmem, ⟨10, _⟩ => ⟨S1x1x16x128x128, .bf16⟩
  | .local _ .vmem, ⟨11, _⟩ => ⟨S1x1x16x128x128, .bf16⟩
  | .local _ .vmem, ⟨12, _⟩ => ⟨S16x128x128, .f32⟩
  | _, _ => ⟨S12x2304x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![12, 18], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x128x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x16x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x16x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QuantiseIdeal.lean ====
abbrev S256x128 : Shape := ⟨2, ![256, 128]⟩
variable {F : FTy → Type} [FloatOps F]
-- ==== QuantiseReferenceIdeal.lean ====
abbrev S12x2304x16x128 : Shape := ⟨4, ![12, 2304, 16, 128]⟩
abbrev S12x2304x128 : Shape := ⟨3, ![12, 2304, 128]⟩
abbrev S12x2304x1x128 : Shape := ⟨4, ![12, 2304, 1, 128]⟩
abbrev S12x2304x16x64 : Shape := ⟨4, ![12, 2304, 16, 64]⟩
abbrev S12x18x128x16x128 : Shape := ⟨5, ![12, 18, 128, 16, 128]⟩
abbrev S_ : Shape := ⟨0, ![]⟩
abbrev S12x18x16 : Shape := ⟨3, ![12, 18, 16]⟩
abbrev S12x18x1x16x1 : Shape := ⟨5, ![12, 18, 1, 16, 1]⟩
abbrev S12x18x16x1 : Shape := ⟨4, ![12, 18, 16, 1]⟩
abbrev S12x18x16x128 : Shape := ⟨4, ![12, 18, 16, 128]⟩
abbrev S12x18x16x128x128 : Shape := ⟨5, ![12, 18, 16, 128, 128]⟩

abbrev nBuf : Space → Nat
  | .hbm => 46
  | .vmem => 2
  | .smem => 0
  | _ => 0

abbrev bufTy : (tb : Table) → Fin (tcTables nBuf tb) → BufTy
  | .hbm, ⟨0, _⟩ => ⟨S12x2304x16x128, .bf16⟩
  | .hbm, ⟨1, _⟩ => ⟨S12x2304x128, .f32⟩
  | .hbm, ⟨2, _⟩ => ⟨S12x2304x128, .f32⟩
  | .hbm, ⟨3, _⟩ => ⟨S12x2304x16x128, .f32⟩
  | .hbm, ⟨4, _⟩ => ⟨S12x2304x1x128, .f32⟩
  | .hbm, ⟨5, _⟩ => ⟨S12x2304x16x128, .f32⟩
  | .hbm, ⟨6, _⟩ => ⟨S12x2304x16x128, .f32⟩
  | .hbm, ⟨7, _⟩ => ⟨S12x2304x16x64, .f32⟩
  | .hbm, ⟨8, _⟩ => ⟨S12x2304x16x64, .f32⟩
  | .hbm, ⟨9, _⟩ => ⟨S12x2304x16x128, .f32⟩
  | .hbm, ⟨10, _⟩ => ⟨S12x2304x1x128, .f32⟩
  | .hbm, ⟨11, _⟩ => ⟨S12x2304x16x128, .f32⟩
  | .hbm, ⟨12, _⟩ => ⟨S12x2304x16x128, .f32⟩
  | .hbm, ⟨13, _⟩ => ⟨S12x2304x16x128, .f32⟩
  | .hbm, ⟨14, _⟩ => ⟨S12x18x128x16x128, .f32⟩
  | .hbm, ⟨15, _⟩ => ⟨S12x18x128x16x128, .f32⟩
  | .hbm, ⟨16, _⟩ => ⟨S_, .f32⟩
  | .hbm, ⟨17, _⟩ => ⟨S12x18x16, .f32⟩
  | .hbm, ⟨18, _⟩ => ⟨S_, .f32⟩
  | .hbm, ⟨19, _⟩ => ⟨S12x18x16, .f32⟩
  | .hbm, ⟨20, _⟩ => ⟨S12x18x16, .i1⟩
  | .hbm, ⟨21, _⟩ => ⟨S_, .f32⟩
  | .hbm, ⟨22, _⟩ => ⟨S12x18x16, .f32⟩
  | .hbm, ⟨23, _⟩ => ⟨S12x18x16, .f32⟩
  | .hbm, ⟨24, _⟩ => ⟨S_, .f32⟩
  | .hbm, ⟨25, _⟩ => ⟨S_, .f32⟩
  | .hbm, ⟨26, _⟩ => ⟨S12x18x16, .f32⟩
  | .hbm, ⟨27, _⟩ => ⟨S12x18x16, .f32⟩
  | .hbm, ⟨28, _⟩ => ⟨S12x18x1x16x1, .f32⟩
  | .hbm, ⟨29, _⟩ => ⟨S12x18x128x16x128, .f32⟩
  | .hbm, ⟨30, _⟩ => ⟨S12x18x128x16x128, .f32⟩
  | .hbm, ⟨31, _⟩ => ⟨S12x18x128x16x128, .f32⟩
  | .hbm, ⟨32, _⟩ => ⟨S_, .i32⟩
  | .hbm, ⟨33, _⟩ => ⟨S_, .i32⟩
  | .hbm, ⟨34, _⟩ => ⟨S_, .f32⟩
  | .hbm, ⟨35, _⟩ => ⟨S12x18x128x16x128, .f32⟩
  | .hbm, ⟨36, _⟩ => ⟨S12x18x128x16x128, .f32⟩
  | .hbm, ⟨37, _⟩ => ⟨S_, .f32⟩
  | .hbm, ⟨38, _⟩ => ⟨S12x18x128x16x128, .f32⟩
  | .hbm, ⟨39, _⟩ => ⟨S12x18x128x16x128, .f32⟩
  | .hbm, ⟨40, _⟩ => ⟨S12x18x16x1, .f32⟩
  | .hbm, ⟨41, _⟩ => ⟨S12x18x16x128, .f32⟩
  | .hbm, ⟨42, _⟩ => ⟨S12x18x16x128x128, .f32⟩
  | .hbm, ⟨43, _⟩ => ⟨S12x18x16x128x128, .bf16⟩
  | .hbm, ⟨44, _⟩ => ⟨S12x2304x16x128, .f32⟩
  | .hbm, ⟨45, _⟩ => ⟨S12x2304x16x128, .i8⟩
  | .local _ .vmem, ⟨0, _⟩ => ⟨S12x2304x16x128, .f32⟩
  | .local _ .vmem, ⟨1, _⟩ => ⟨S12x2304x16x128, .i8⟩
  | _, _ => ⟨S12x2304x16x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_c_3 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S12x2304x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2304x16x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Online.lean ====
/- Softmax-weighted sums over the extended reals, taken whole and taken chunk by chunk. Pure mathematics: no program is
   mentioned. The scores of the keys that take part are real numbers, the values are arbitrary extended reals. -/
module

public import Idealize.ShloMosaic.PureOps.Ideal

@[expose] public section

noncomputable section

namespace Cert.Attn

open Idealize.ShloMosaic

variable {κ ρ : Type} [DecidableEq κ] [Fintype ρ] [DecidableEq ρ]

/-- The softmax weight of key `k` among the keys of `A`, with scores `x`. -/
def weight (x : κ → ℝ) (A : Finset κ) (k : κ) : ℝ := Real.exp (x k) / ∑ j ∈ A, Real.exp (x j)

/-- Attention's answer: the values of the keys of `A`, weighted by the softmax of their scores. -/
def attn (x : κ → ℝ) (v : κ → EReal) (A : Finset κ) : EReal := ∑ k ∈ A, ((weight x A k : ℝ) : EReal) * v k

/-- A finite sum of reals, taken in the extended reals. -/
theorem coe_sum {ι : Type} (A : Finset ι) (f : ι → ℝ) :
    (∑ k ∈ A, ((f k : ℝ) : EReal)) = ((∑ k ∈ A, f k : ℝ) : EReal) := by
  classical
  induction A using Finset.induction_on with
  | empty => simp
  | insert a A h ih => rw [Finset.sum_insert h, Finset.sum_insert h, ih, EReal.coe_add]

/-- A nonnegative real factor goes inside a finite sum of extended reals. -/
theorem sum_mul_coe {ι : Type} (A : Finset ι) (f : ι → EReal) {c : ℝ} (hc : 0 ≤ c) :
    (∑ k ∈ A, f k) * (c : EReal) = ∑ k ∈ A, f k * (c : EReal) := by
  classical
  induction A using Finset.induction_on with
  | empty => simp
  | insert a A h ih =>
    rw [Finset.sum_insert h, Finset.sum_insert h, ← ih]
    exact EReal.right_distrib_of_nonneg_of_ne_top (EReal.coe_nonneg.2 hc) (EReal.coe_ne_top c) _ _

/-- The running maximum over a chunk, started at `⊥`, is a real number when no score is `⊤` and some score is real. -/
theorem exists_fold_max [Nonempty ρ] (a : EReal) (s : ρ → EReal) (ha : a ≠ ⊤) (hs : ∀ r, s r ≠ ⊤)
    (hr : ∃ r, s r ≠ ⊥) :
    ∃ M : ℝ, max a (Finset.univ.fold max (⊥ : EReal) s) = (M : EReal) := by
  have key : ∀ A : Finset ρ, A.fold max (⊥ : EReal) s ≠ ⊤ := by
    intro A
    induction A using Finset.induction_on with
    | empty => simp
    | insert b A h ih =>
      rw [Finset.fold_insert h]
      rcases max_choice (s b) (A.fold max (⊥ : EReal) s) with h' | h' <;> rw [h']
      · exact hs b
      · exact ih
  have htop : max a (Finset.univ.fold max (⊥ : EReal) s) ≠ ⊤ := by
    rcases max_choice a (Finset.univ.fold max (⊥ : EReal) s) with h' | h' <;> rw [h']
    · exact ha
    · exact key _
  have hbot : max a (Finset.univ.fold max (⊥ : EReal) s) ≠ ⊥ := by
    obtain ⟨r, hr⟩ := hr
    have h1 : s r ≤ Finset.univ.fold max (⊥ : EReal) s :=
      Finset.le_fold_max (s r) |>.2 (Or.inr ⟨r, Finset.mem_univ r, le_refl _⟩)
    intro h
    exact hr (le_bot_iff.1 (h1.trans ((le_max_right _ _).trans (le_of_eq h))))
  exact ⟨_, (EReal.coe_toReal htop hbot).symm⟩

/-- What the running state `(m, l, a)` of the chunked computation holds after the keys of `A`: a real reference
    point `m`, the sum `l` of the keys' base-two exponentials of `s - m`, and their sum `a` weighted by the values;
    or, before the first key, `(⊥, 0, 0)`. -/
def Holds (s : κ → ℝ) (v : κ → EReal) (A : Finset κ) (m l a : EReal) : Prop :=
  (∃ μ : ℝ, m = (μ : EReal) ∧ l = ((∑ k ∈ A, (2 : ℝ) ^ (s k - μ) : ℝ) : EReal)
      ∧ a = ∑ k ∈ A, (((2 : ℝ) ^ (s k - μ) : ℝ) : EReal) * v k)
    ∨ (A = ∅ ∧ m = ⊥ ∧ l = 0 ∧ a = 0)

/-- ONE CHUNK. The chunk's rows `r` with `P r` are the keys `e r`, new to `A`; its other rows are masked by `⊥`. The
    new maximum, the rescaled sums and the chunk's own terms make the state of the enlarged set of keys. -/
theorem Holds.step [Nonempty ρ] {s : κ → ℝ} {v : κ → EReal} {A A' : Finset κ} {m l a : EReal} (h : Holds s v A m l a)
    (e : ρ → κ) (he : Function.Injective e) (P : ρ → Prop) [DecidablePred P] (hP : ∃ r, P r)
    (hnew : ∀ r, P r → e r ∉ A) (hA' : A' = A ∪ (Finset.univ.filter P).image e)
    (S : ρ → EReal) (hS : ∀ r, S r = if P r then ((s (e r) : ℝ) : EReal) else ⊥)
    {m' l' a' : EReal} (hm : m' = max m (Finset.univ.fold max (⊥ : EReal) S))
    (hl : l' = l * Ideal.exp2 (m - m') + ∑ r, Ideal.exp2 (S r - m'))
    (ha : a' = a * Ideal.exp2 (m - m') + ∑ r, v (e r) * Ideal.exp2 (S r - m')) :
    Holds s v A' m' l' a' := by
  have hmt : m ≠ ⊤ := by
    rcases h with ⟨μ, h, -⟩ | ⟨-, h, -⟩ <;> rw [h]
    · exact EReal.coe_ne_top μ
    · exact bot_ne_top
  obtain ⟨M, hM⟩ := exists_fold_max m S hmt (fun r => by rw [hS]; split_ifs; exacts [EReal.coe_ne_top _, bot_ne_top])
    (by obtain ⟨r, hr⟩ := hP; exact ⟨r, by rw [hS, if_pos hr]; exact EReal.coe_ne_bot _⟩)
  rw [hM] at hm
  subst hm
  have hp : ∀ r, Ideal.exp2 (S r - (M : EReal)) = (((if P r then (2 : ℝ) ^ (s (e r) - M) else 0) : ℝ) : EReal) := by
    intro r
    rw [hS]
    split_ifs
    · rw [← EReal.coe_sub]; rfl
    · rw [EReal.bot_sub]; rfl
  have hdisj : Disjoint A ((Finset.univ.filter P).image e) := by
    rw [Finset.disjoint_left]
    intro k hk hk'
    obtain ⟨r, hr, rfl⟩ := Finset.mem_image.1 hk'
    exact hnew r (Finset.mem_filter.1 hr).2 hk
  have hlsum : ∑ r, Ideal.exp2 (S r - (M : EReal))
      = ((∑ k ∈ (Finset.univ.filter P).image e, (2 : ℝ) ^ (s k - M) : ℝ) : EReal) := by
    rw [Finset.sum_congr rfl fun r _ => hp r, coe_sum, Finset.sum_image fun _ _ _ _ h => he h, Finset.sum_filter]
  have hasum : ∑ r, v (e r) * Ideal.exp2 (S r - (M : EReal))
      = ∑ k ∈ (Finset.univ.filter P).image e, (((2 : ℝ) ^ (s k - M) : ℝ) : EReal) * v k := by
    rw [Finset.sum_image fun _ _ _ _ h => he h, Finset.sum_filter]
    refine Finset.sum_congr rfl fun r _ => ?_
    rw [hp]
    split_ifs
    · exact mul_comm _ _
    · rw [EReal.coe_zero, mul_zero]
  left
  refine ⟨M, rfl, ?_, ?_⟩
  · rw [hl, hlsum, hA', Finset.sum_union hdisj, EReal.coe_add]
    congr 1
    rcases h with ⟨μ, h1, h2, -⟩ | ⟨h0, h1, h2, -⟩
    · rw [h1, h2, ← EReal.coe_sub, Ideal.exp2_coe, ← EReal.coe_mul, Finset.sum_mul]
      refine congrArg _ (Finset.sum_congr rfl fun k _ => ?_)
      show (2 : ℝ) ^ (s k - μ) * (2 : ℝ) ^ (μ - M) = _
      rw [← Real.rpow_add two_pos]
      congr 1; ring
    · rw [h0, h2]; simp
  · rw [ha, hasum, hA', Finset.sum_union hdisj]
    congr 1
    rcases h with ⟨μ, h1, -, h3⟩ | ⟨h0, h1, -, h3⟩
    · rw [h1, h3, ← EReal.coe_sub, Ideal.exp2_coe]
      rw [sum_mul_coe A _ (c := Real.rpow 2 (μ - M)) (Real.rpow_nonneg two_pos.le _)]
      refine Finset.sum_congr rfl fun k _ => ?_
      rw [mul_right_comm, ← EReal.coe_mul]
      refine congrArg (fun z : ℝ => (z : EReal) * v k) ?_
      show (2 : ℝ) ^ (s k - μ) * (2 : ℝ) ^ (μ - M) = _
      rw [← Real.rpow_add two_pos]
      congr 1; ring
    · rw [h0, h3]; simp

/-- The quotient of two sums of exponentials does not depend on the point the exponents are taken from. -/
theorem div_sum (x : κ → ℝ) (A : Finset κ) (w : κ → ℝ) (c : ℝ) (hc : 0 < c) (hw : ∀ k, w k = Real.exp (x k) * c) (k : κ) :
    w k * (1 / ∑ j ∈ A, w j) = weight x A k := by
  have : ∑ j ∈ A, w j = (∑ j ∈ A, Real.exp (x j)) * c := by
    rw [Finset.sum_mul]; exact Finset.sum_congr rfl fun j _ => hw j
  rw [this, hw, weight, mul_one_div, mul_div_mul_right _ _ hc.ne']

/-- THE LAST DIVISION. If the state holds of a nonempty set of keys and the base-two scores are `x / log 2`, the
    quotient of the two sums is attention's answer for the scores `x`. -/
theorem Holds.div {s : κ → ℝ} {v : κ → EReal} {A : Finset κ} {m l a : EReal} (h : Holds s v A m l a) (hA : A.Nonempty)
    (x : κ → ℝ) (hx : ∀ k, s k * Real.log 2 = x k) : Ideal.div a l = attn x v A := by
  rcases h with ⟨μ, -, h2, h3⟩ | ⟨h0, -⟩
  swap
  · exact absurd h0 hA.ne_empty
  have hpos : 0 < ∑ k ∈ A, (2 : ℝ) ^ (s k - μ) := Finset.sum_pos (fun k _ => Real.rpow_pos_of_pos two_pos _) hA
  rw [h2, h3, Ideal.div_coe hpos.ne', sum_mul_coe A _ (by positivity)]
  refine Finset.sum_congr rfl fun k _ => ?_
  rw [mul_right_comm, ← EReal.coe_mul]
  refine congrArg (fun z : ℝ => (z : EReal) * v k) ?_
  refine div_sum x A (fun k => (2 : ℝ) ^ (s k - μ)) (Real.exp (-(μ * Real.log 2))) (Real.exp_pos _) (fun k => ?_) k
  show (2 : ℝ) ^ (s k - μ) = _
  rw [Real.rpow_def_of_pos two_pos, ← Real.exp_add, ← hx]
  congr 1; ring

/-- SOFTMAX TAKEN WHOLE. Over all keys, with the keys outside `A` masked by `⊥`: the exponentials of the scores less
    their maximum, each divided by their sum, weight the values to attention's answer over `A`. -/
theorem whole [Fintype κ] [Nonempty κ] (x : κ → ℝ) (v : κ → EReal) (A : Finset κ) (hA : A.Nonempty)
    (S : κ → EReal) (hS : ∀ k, S k = if k ∈ A then ((x k : ℝ) : EReal) else ⊥)
    {m : EReal} (hm : m = max ⊥ (Finset.univ.fold max (⊥ : EReal) S)) :
    ∑ k, Ideal.div (Ideal.exp (S k - m)) (0 + ∑ j, Ideal.exp (S j - m)) * v k = attn x v A := by
  obtain ⟨M, hM⟩ := exists_fold_max ⊥ S bot_ne_top
    (fun r => by rw [hS]; split_ifs; exacts [EReal.coe_ne_top _, bot_ne_top])
    (by obtain ⟨r, hr⟩ := hA; exact ⟨r, by rw [hS, if_pos hr]; exact EReal.coe_ne_bot _⟩)
  rw [hM] at hm
  subst hm
  have hp : ∀ k, Ideal.exp (S k - (M : EReal)) = (((if k ∈ A then Real.exp (x k - M) else 0) : ℝ) : EReal) := by
    intro k
    rw [hS]
    split_ifs
    · rw [← EReal.coe_sub]; rfl
    · rw [EReal.bot_sub]; rfl
  have hsum : ∑ j, Ideal.exp (S j - (M : EReal)) = ((∑ j ∈ A, Real.exp (x j - M) : ℝ) : EReal) := by
    rw [Finset.sum_congr rfl fun r _ => hp r, coe_sum, Finset.sum_ite_mem, Finset.univ_inter]
  have hpos : 0 < ∑ j ∈ A, Real.exp (x j - M) := Finset.sum_pos (fun k _ => Real.exp_pos _) hA
  rw [hsum, zero_add]
  have hattn : attn x v A = ∑ k, if k ∈ A then ((weight x A k : ℝ) : EReal) * v k else 0 := by
    rw [Finset.sum_ite_mem, Finset.univ_inter, attn]
  rw [hattn]
  refine Finset.sum_congr rfl fun k _ => ?_
  rw [hp, Ideal.div_coe hpos.ne', ← EReal.coe_mul]
  split_ifs
  · refine congrArg (fun z : ℝ => (z : EReal) * v k) ?_
    refine div_sum x A (fun k => Real.exp (x k - M)) (Real.exp (-M)) (Real.exp_pos _) (fun k => ?_) k
    rw [← Real.exp_add]; rfl
  · rw [zero_mul, EReal.coe_zero, zero_mul]

end Cert.Attn

end
-- ==== Proof.Pay.lean ====
/- What the attention kernel's vector expressions hold at one index, over the extended reals: the scaled queries, the
   scores of one chunk of keys, the running maximum, the running sum and the running weighted sum. -/
module

public import proofs.«01_k».proof.Proof.Online
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Attn

open Cert.KernelIdeal Cert.KernelIdeal.Gen

/-- The head a column of the block belongs to, among the block's eight. -/
def hd (n : Fin 1024) : Fin 8 := ⟨n.val / 128, by omega⟩

/-- The query row of a column, within the block. -/
def qrow (n : Fin 1024) : Fin 128 := ⟨n.val % 128, by omega⟩

/-- Key `r` of chunk `c`. -/
def key (c : Fin 18) (r : Fin 128) : Fin 2304 := ⟨128 * c.val + r.val, by omega⟩

/-- The scale a key's codes carry: one for each 64 keys. -/
def seg (k : Fin 2304) : Fin 36 := ⟨k.val / 64, by omega⟩

/-- The scale of a chunk's first 64 keys, and of its last 64. -/
def segLo (c : Fin 18) : Fin 36 := ⟨2 * c.val, by omega⟩
def segHi (c : Fin 18) : Fin 36 := ⟨2 * c.val + 1, by omega⟩

/-- The kernel's named constant. -/
def scale : EReal := (((11863283 / 134217728) * (Real.log 2)⁻¹ : ℝ) : EReal)

theorem named_scale : Named.named (F := Ideal) κ "scale_log2e" (φ := .f32) 0x3E0293EE#32 = scale := rfl

theorem neg_inf : Ideal.ofBits .f32 0xFF800000#32 = ⊥ := by simp [Ideal.ofBits, Ideal.ieee]

/-- The kernel's base-two score of a key against a column of the block, from the block's codes and scales. -/
def kscore (x0 : FVec Ideal S1x1x8x128x128 .bf16) (x1 : FVec Ideal S1x1x8x128 .f32) (x2 : FVec Ideal S1x1x2304x128 .bf16)
    (x3 : FVec Ideal S1x1x36x128 .f32) (n : Fin 1024) (k : Fin 2304) : EReal :=
  (∑ d : Fin 128, x2 (ix4 0 0 k d) * x0 (ix5 0 0 (hd n) (qrow n) d)) * (x1 (ix4 0 0 (hd n) (qrow n)) * scale * x3 (ix4 0 0 (seg k) 0))

/-- The queries, one row for each column of the block. -/
theorem pay14_at (x0 : FVec Ideal S1x1x8x128x128 .bf16) (n : Fin 1024) (d : Fin 128) :
    k0_pay14 (F := Ideal) x0 (ix2 n d) = x0 (ix5 0 0 (hd n) (qrow n) d) := by
  pointwise [k0_pay14]
  rfl

/-- The query scales times the named constant. -/
theorem pay15_at (x1 : FVec Ideal S1x1x8x128 .f32) (n : Fin 1024) :
    k0_pay15 (F := Ideal) x1 (ix2 0 n) = x1 (ix4 0 0 (hd n) (qrow n)) * scale := by
  pointwise [k0_pay15]
  simp only [named_scale]
  have key : ∀ (h : Fin 8) (q : Fin 128), n.val / 128 = h.val → n.val % 128 = q.val →
      x1 (ix4 0 0 h q) * scale = x1 (ix4 0 0 (hd n) (qrow n)) * scale := by
    intro h q hh hq
    rw [show h = hd n from Fin.ext hh.symm, show q = qrow n from Fin.ext hq.symm]
  have hn := n.isLt
  split_ifs <;> exact key _ _ (by simp only [Fin.isValue, Fin.coe_ofNat_eq_mod]; omega) (by dsimp only; omega)

/-- The scores of a chunk, as the loop computes them. -/
theorem pay4_at (q : FVec Ideal S1024x128 .bf16) (qs : FVec Ideal S1x1024 .f32) (kc : FVec Ideal S1x1x128x128 .bf16)
   (ka kb : FVec Ideal S1x1x1x128 .f32) (r : Fin 128) (n : Fin 1024) :
   k0_pay4 (F := Ideal) q qs kc ka kb (ix2 r n) = (∑ d : Fin 128, kc (ix4 0 0 r d) * q (ix2 n d)) * (qs (ix2 0 n) * (if (r : ℕ) < 64 then ka (ix4 0 0 0 0) else kb (ix4 0 0 0 0))) := by
  pointwise [k0_pay4]
  by_cases h : r.val < 64
  · rw [dif_pos h, if_pos h]
  · rw [dif_neg h, if_neg h]
    have : (⟨64 + (r.val - 64), by omega⟩ : Fin 128) = r := Fin.ext (by dsimp only; omega)
    rw [this]

/-- The scores of a chunk, in terms of the block's codes and scales. -/
theorem chunk_score (x0 : FVec Ideal S1x1x8x128x128 .bf16) (x1 : FVec Ideal S1x1x8x128 .f32) (x2 : FVec Ideal S1x1x2304x128 .bf16)
    (x3 : FVec Ideal S1x1x36x128 .f32) (c : Fin 18) (kc : FVec Ideal S1x1x128x128 .bf16) (ka kb : FVec Ideal S1x1x1x128 .f32)
    (hk : ∀ r d, kc (ix4 0 0 r d) = x2 (ix4 0 0 (key c r) d))
    (ha : ka (ix4 0 0 0 0) = x3 (ix4 0 0 (segLo c) 0)) (hb : kb (ix4 0 0 0 0) = x3 (ix4 0 0 (segHi c) 0))
    (r : Fin 128) (n : Fin 1024) :
    k0_pay4 (F := Ideal) (k0_pay14 x0) (k0_pay15 x1) kc ka kb (ix2 r n) = kscore x0 x1 x2 x3 n (key c r) := by
  rw [pay4_at, pay15_at, kscore]
  congr 1
  · exact Finset.sum_congr rfl fun d _ => by rw [hk, pay14_at]
  · congr 1
    split_ifs with h
    · rw [ha]; congr 2; exact Fin.ext (by simp only [seg, segLo, segHi, key]; omega)
    · rw [hb]; congr 2; exact Fin.ext (by simp only [seg, segLo, segHi, key]; omega)

/-- The new maximum of a column. -/
theorem pay5_at (q : FVec Ideal S1024x128 .bf16) (qs : FVec Ideal S1x1024 .f32) (m : FVec Ideal S1x1024 .f32) (kc : FVec Ideal S1x1x128x128 .bf16)
   (ka kb : FVec Ideal S1x1x1x128 .f32)  (n : Fin 1024) :
   k0_pay5 (F := Ideal) q qs m kc ka kb (ix2 0 n) = max (m (ix2 0 n)) (Finset.univ.fold max ⊥ fun r => k0_pay4 (F := Ideal) q qs kc ka kb (ix2 r n)) := by
  pointwise [k0_pay5]
  rw [neg_inf]

/-- The factor a column's sums are rescaled by. -/
theorem pay6_at (q : FVec Ideal S1024x128 .bf16) (qs : FVec Ideal S1x1024 .f32) (m : FVec Ideal S1x1024 .f32) (kc : FVec Ideal S1x1x128x128 .bf16)
   (ka kb : FVec Ideal S1x1x1x128 .f32)  (n : Fin 1024) :
   k0_pay6 (F := Ideal) q qs m kc ka kb (ix2 0 n) = Ideal.exp2 (m (ix2 0 n) - k0_pay5 (F := Ideal) q qs m kc ka kb (ix2 0 n)) := by
  pointwise [k0_pay6]
  rfl

/-- The exponentials of a chunk. -/
theorem pay7_at (q : FVec Ideal S1024x128 .bf16) (qs : FVec Ideal S1x1024 .f32) (m : FVec Ideal S1x1024 .f32) (kc : FVec Ideal S1x1x128x128 .bf16)
   (ka kb : FVec Ideal S1x1x1x128 .f32) (r : Fin 128) (n : Fin 1024) :
   k0_pay7 (F := Ideal) q qs m kc ka kb (ix2 r n) = Ideal.exp2 (k0_pay4 (F := Ideal) q qs kc ka kb (ix2 r n) - k0_pay5 (F := Ideal) q qs m kc ka kb (ix2 0 n)) := by
  pointwise [k0_pay7]
  rfl

/-- The new sum of a column. -/
theorem pay8_at (q : FVec Ideal S1024x128 .bf16) (qs : FVec Ideal S1x1024 .f32) (m l : FVec Ideal S1x1024 .f32) (kc : FVec Ideal S1x1x128x128 .bf16)
   (ka kb : FVec Ideal S1x1x1x128 .f32)  (n : Fin 1024) :
   k0_pay8 (F := Ideal) q qs m l kc ka kb (ix2 0 n) = l (ix2 0 n) * Ideal.exp2 (m (ix2 0 n) - k0_pay5 (F := Ideal) q qs m kc ka kb (ix2 0 n))
     + ∑ r : Fin 128, Ideal.exp2 (k0_pay4 (F := Ideal) q qs kc ka kb (ix2 r n) - k0_pay5 (F := Ideal) q qs m kc ka kb (ix2 0 n)) := by
  pointwise [k0_pay8, k0_pay6, k0_pay7]
  rfl

/-- The new weighted sum of a column and a feature. -/
theorem pay28_at (a : FVec Ideal S128x1024 .f32) (al : FVec Ideal S1x1024 .f32)  (p : FVec Ideal S128x1024 .f32) (vt : FVec Ideal S1x1x128x128 .bf16)
   (d : Fin 128)  (n : Fin 1024) :
   k0_pay28 (F := Ideal) a al p vt (ix2 d n) = a (ix2 d n) * al (ix2 0 n)
     + ∑ r : Fin 128, vt (ix4 0 0 d r) * p (ix2 r n) := by
  pointwise [k0_pay28]

/-! ### The chunk on the diagonal -/

theorem mask_iff (r : Fin 128) (n : Fin 1024) :
    IntOp.cmpi CmpIPredicate.sle (BitVec.ofNat 32 ↑r) (IntOp.andi (BitVec.ofNat 32 ↑n) 127#32) = if r.val ≤ n.val % 128 then 1#1 else 0#1 := by
  have h1 : IntOp.andi (BitVec.ofNat 32 ↑n) 127#32 = BitVec.ofNat 32 (n.val % 128) := by
    apply BitVec.eq_of_toNat_eq
    show (BitVec.ofNat 32 ↑n &&& 127#32).toNat = _
    rw [BitVec.toNat_and, BitVec.toNat_ofNat, BitVec.toNat_ofNat, BitVec.toNat_ofNat]
    rw [Nat.mod_eq_of_lt (by omega : n.val < 2 ^ 32), Nat.mod_eq_of_lt (by omega : n.val % 128 < 2 ^ 32)]
    exact Nat.and_two_pow_sub_one_eq_mod n.val 7
  rw [h1]
  have := r.isLt
  have := Nat.mod_lt n.val (show 0 < 128 by norm_num)
  generalize n.val % 128 = q at *
  have hs : (BitVec.ofNat 32 r.val).sle (BitVec.ofNat 32 q) = decide (r.val ≤ q) := by
    rw [BitVec.sle_eq_decide, BitVec.toInt_ofNat', BitVec.toInt_ofNat']
    congr 1
    rw [eq_iff_iff]
    simp only [Int.bmod]
    omega
  show BitVec.ofBool ((BitVec.ofNat 32 r.val).sle (BitVec.ofNat 32 q)) = _
  rw [hs]
  split_ifs with h <;> simp [h]

/-- The diagonal chunk's scores: the keys after the query are masked. -/
theorem diag_score (x0 : FVec Ideal S1x1x8x128x128 .bf16) (x1 : FVec Ideal S1x1x8x128 .f32) (x2 : FVec Ideal S1x1x2304x128 .bf16)
    (x3 : FVec Ideal S1x1x36x128 .f32) (c : Fin 18) (kc : FVec Ideal S1x1x128x128 .bf16) (ka kb : FVec Ideal S1x1x1x128 .f32)
    (hk : ∀ r d, kc (ix4 0 0 r d) = x2 (ix4 0 0 (key c r) d))
    (ha : ka (ix4 0 0 0 0) = x3 (ix4 0 0 (segLo c) 0)) (hb : kb (ix4 0 0 0 0) = x3 (ix4 0 0 (segHi c) 0))
    (r : Fin 128) (n : Fin 1024) :
    k0_pay22 (F := Ideal) (k0_pay15 x1) (k0_pay19 x0 kc) (k0_pay20 x0 kc) (k0_pay21 x1 ka) kb (ix2 r n)
      = if r.val ≤ n.val % 128 then kscore x0 x1 x2 x3 n (key c r) else ⊥ := by
  rw [← chunk_score x0 x1 x2 x3 c kc ka kb hk ha hb r n, pay4_at]
  pointwise [k0_pay22, k0_pay19, k0_pay20, k0_pay21]
  rw [mask_iff, neg_inf]
  by_cases h : r.val ≤ n.val % 128
  · rw [if_pos h, if_pos h]
    show (dite (r.val < 64) _ _) = _
    by_cases h : r.val < 64
    · rw [dif_pos h, if_pos h]
    · rw [dif_neg h, if_neg h]
      have : (⟨64 + (r.val - 64), by omega⟩ : Fin 128) = r := Fin.ext (by dsimp only; omega)
      rw [this]
  · rw [if_neg h, if_neg h]
    rfl

theorem pay16_at (n : Fin 1024) : k0_pay16 (F := Ideal) (ix2 0 n) = ⊥ := by
  pointwise [k0_pay16]
  exact neg_inf

theorem pay17_at (n : Fin 1024) : k0_pay17 (F := Ideal) (ix2 0 n) = 0 := by
  pointwise [k0_pay17]

theorem pay18_at (d : Fin 128) (n : Fin 1024) : k0_pay18 (F := Ideal) (ix2 d n) = 0 := by
  pointwise [k0_pay18]

theorem pay23_at (qs m : FVec Ideal S1x1024 .f32) (raw : FVec Ideal S128x1024 .f32) (lo : FVec Ideal S64x1024 .f32)
    (qk : FVec Ideal S1x1024 .f32) (kb : FVec Ideal S1x1x1x128 .f32) (n : Fin 1024) :
    k0_pay23 (F := Ideal) qs m raw lo qk kb (ix2 0 n)
      = max (m (ix2 0 n)) (Finset.univ.fold max ⊥ fun r => k0_pay22 (F := Ideal) qs raw lo qk kb (ix2 r n)) := by
  pointwise [k0_pay23]
  rw [neg_inf]

theorem pay26_at (qs m l : FVec Ideal S1x1024 .f32) (raw : FVec Ideal S128x1024 .f32) (lo : FVec Ideal S64x1024 .f32)
    (qk : FVec Ideal S1x1024 .f32) (kb : FVec Ideal S1x1x1x128 .f32) (n : Fin 1024) :
    k0_pay26 (F := Ideal) qs m l raw lo qk kb (ix2 0 n)
      = l (ix2 0 n) * Ideal.exp2 (m (ix2 0 n) - k0_pay23 (F := Ideal) qs m raw lo qk kb (ix2 0 n))
        + ∑ r : Fin 128, Ideal.exp2 (k0_pay22 (F := Ideal) qs raw lo qk kb (ix2 r n) - k0_pay23 (F := Ideal) qs m raw lo qk kb (ix2 0 n)) := by
  pointwise [k0_pay26, k0_pay24, k0_pay25]
  rfl

theorem pay27_at (qs m : FVec Ideal S1x1024 .f32) (a : FVec Ideal S128x1024 .f32) (raw : FVec Ideal S128x1024 .f32) (lo : FVec Ideal S64x1024 .f32)
    (qk : FVec Ideal S1x1024 .f32) (kb : FVec Ideal S1x1x1x128 .f32) (vt : FVec Ideal S1x1x128x128 .bf16) (d : Fin 128) (n : Fin 1024) :
    k0_pay27 (F := Ideal) qs m a raw lo qk kb vt (ix2 d n)
      = a (ix2 d n) * Ideal.exp2 (m (ix2 0 n) - k0_pay23 (F := Ideal) qs m raw lo qk kb (ix2 0 n))
        + ∑ r : Fin 128, vt (ix4 0 0 d r) * Ideal.exp2 (k0_pay22 (F := Ideal) qs raw lo qk kb (ix2 r n) - k0_pay23 (F := Ideal) qs m raw lo qk kb (ix2 0 n)) := by
  pointwise [k0_pay27, k0_pay24, k0_pay25]
  rfl

/-- The quotient. -/
theorem pay30_at (l : FVec Ideal S1x1024 .f32) (a : FVec Ideal S128x1024 .f32) (d : Fin 128) (n : Fin 1024) :
    k0_pay30 (F := Ideal) l a (ix2 d n) = Ideal.div (a (ix2 d n)) (l (ix2 0 n)) := by
  pointwise [k0_pay30]

end Cert.KernelIdeal.Attn

end
-- ==== Proof.State.lean ====
/- The kernel's running state — maximum, sum, weighted sum — for every column of a block, and how one chunk of keys moves
   it. -/
module

public import proofs.«01_k».proof.Proof.Pay

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

/-- The state's type: maxima, sums, weighted sums. -/
abbrev St : Type := FVec Ideal S1x1024 .f32 × FVec Ideal S1x1024 .f32 × FVec Ideal S128x1024 .f32

/-- The keys seen by column `n` of query block `i` after the diagonal chunk and the first `c` chunks. -/
def seen (i c : ℕ) (n : Fin 1024) : Finset (Fin 2304) :=
  Finset.univ.filter fun k => k.val < 128 * c ∨ (128 * i ≤ k.val ∧ k.val ≤ 128 * i + n.val % 128)

/-- The keys column `n` of query block `i` attends to: those not after its query. -/
def causal (i : ℕ) (n : Fin 1024) : Finset (Fin 2304) := Finset.univ.filter fun k => k.val ≤ 128 * i + n.val % 128

theorem seen_all (i : ℕ) (n : Fin 1024) : seen i i n = causal i n := by
  ext k; simp only [seen, causal, Finset.mem_filter, Finset.mem_univ, true_and]; omega

/-- The state holds, for every column and feature, of the keys `seen i c`. -/
def Good (s : Fin 1024 → Fin 2304 → ℝ) (x4 : FVec Ideal S1x1x128x2304 .bf16) (i c : ℕ) (st : St) : Prop :=
  ∀ (n : Fin 1024) (d : Fin 128),
    Holds (s n) (fun k => x4 (ix4 0 0 d k)) (seen i c n) (st.1 (ix2 0 n)) (st.2.1 (ix2 0 n)) (st.2.2 (ix2 d n))

section

variable (x0 : FVec Ideal S1x1x8x128x128 .bf16) (x1 : FVec Ideal S1x1x8x128 .f32) (x2 : FVec Ideal S1x1x2304x128 .bf16)
  (x3 : FVec Ideal S1x1x36x128 .f32) (x4 : FVec Ideal S1x1x128x2304 .bf16)
  (s : Fin 1024 → Fin 2304 → ℝ) (hs : ∀ n k, kscore x0 x1 x2 x3 n k = (s n k : EReal))
  (c : Fin 18) (kc : FVec Ideal S1x1x128x128 .bf16) (ka kb : FVec Ideal S1x1x1x128 .f32) (vc : FVec Ideal S1x1x128x128 .bf16)
  (hk : ∀ r d, kc (ix4 0 0 r d) = x2 (ix4 0 0 (key c r) d))
  (ha : ka (ix4 0 0 0 0) = x3 (ix4 0 0 (segLo c) 0)) (hb : kb (ix4 0 0 0 0) = x3 (ix4 0 0 (segHi c) 0))
  (hv : ∀ d r, vc (ix4 0 0 d r) = x4 (ix4 0 0 d (key c r)))

theorem key_inj (c : Fin 18) : Function.Injective (key c) := by
  intro a b h
  have := congrArg Fin.val h
  simp only [key] at this
  exact Fin.ext (by omega)

include hs hk ha hb hv in
/-- ONE TRIP of the loop over the chunks before the diagonal. -/
theorem Good.trip {i : ℕ} (hc : c.val < i) {m l : FVec Ideal S1x1024 .f32} {a : FVec Ideal S128x1024 .f32}
    (h : Good s x4 i c.val (m, l, a)) :
    Good s x4 i (c.val + 1)
      (k0_pay5 (k0_pay14 x0) (k0_pay15 x1) m kc ka kb, k0_pay8 (k0_pay14 x0) (k0_pay15 x1) m l kc ka kb,
        k0_pay28 a (k0_pay6 (k0_pay14 x0) (k0_pay15 x1) m kc ka kb) (k0_pay7 (k0_pay14 x0) (k0_pay15 x1) m kc ka kb) vc) := by
  intro n d
  refine (h n d).step (key c) (key_inj c) (fun _ => True) ⟨0, trivial⟩ (fun r _ => ?_) ?_
    (fun r => k0_pay4 (F := Ideal) (k0_pay14 x0) (k0_pay15 x1) kc ka kb (ix2 r n)) (fun r => ?_) (pay5_at _ _ _ _ _ _ n) (pay8_at _ _ _ _ _ _ _ n) ?_
  · simp only [seen, key, Finset.mem_filter, Finset.mem_univ, true_and]; omega
  · ext k
    simp only [seen, Finset.mem_union, Finset.mem_image, Finset.mem_filter, Finset.mem_univ, true_and]
    constructor
    · intro h
      by_cases h' : k.val < 128 * c.val ∨ (128 * i ≤ k.val ∧ k.val ≤ 128 * i + n.val % 128)
      · exact Or.inl h'
      · exact Or.inr ⟨⟨k.val - 128 * c.val, by omega⟩, Fin.ext (by simp only [key]; omega)⟩
    · rintro (h | ⟨r, rfl⟩)
      · omega
      · simp only [key]; omega
  · rw [if_pos trivial, ← hs, chunk_score x0 x1 x2 x3 c kc ka kb hk ha hb]
  · refine (pay28_at _ _ _ _ d n).trans ?_
    congr 1
    exact Finset.sum_congr rfl fun r _ => by rw [pay7_at, hv]

include hs hk ha hb hv in
/-- THE DIAGONAL CHUNK, from the empty state. -/
theorem Good.diag :
    Good s x4 c.val 0
      (k0_pay23 (k0_pay15 x1) k0_pay16 (k0_pay19 x0 kc) (k0_pay20 x0 kc) (k0_pay21 x1 ka) kb,
        k0_pay26 (k0_pay15 x1) k0_pay16 k0_pay17 (k0_pay19 x0 kc) (k0_pay20 x0 kc) (k0_pay21 x1 ka) kb,
        k0_pay27 (k0_pay15 x1) k0_pay16 k0_pay18 (k0_pay19 x0 kc) (k0_pay20 x0 kc) (k0_pay21 x1 ka) kb vc) := by
  intro n d
  have h0 : Holds (s n) (fun k => x4 (ix4 0 0 d k)) ∅ (k0_pay16 (F := Ideal) (ix2 0 n)) (k0_pay17 (F := Ideal) (ix2 0 n)) (k0_pay18 (F := Ideal) (ix2 d n)) :=
    Or.inr ⟨rfl, pay16_at n, pay17_at n, pay18_at d n⟩
  refine h0.step (key c) (key_inj c) (fun r => r.val ≤ n.val % 128) ⟨0, Nat.zero_le _⟩ (fun r _ => Finset.notMem_empty _) ?_
    (fun r => k0_pay22 (F := Ideal) (k0_pay15 x1) (k0_pay19 x0 kc) (k0_pay20 x0 kc) (k0_pay21 x1 ka) kb (ix2 r n)) (fun r => ?_)
    (pay23_at _ _ _ _ _ _ n) (pay26_at _ _ _ _ _ _ _ n) ?_
  · ext k
    simp only [seen, Finset.mem_union, Finset.mem_image, Finset.mem_filter, Finset.mem_univ, true_and, Finset.notMem_empty, false_or]
    constructor
    · intro h
      exact ⟨⟨k.val - 128 * c.val, by omega⟩, by dsimp only; omega, Fin.ext (by simp only [key]; omega)⟩
    · rintro ⟨r, hr, rfl⟩
      simp only [key]; omega
  · rw [← hs, diag_score x0 x1 x2 x3 c kc ka kb hk ha hb]
  · refine (pay27_at _ _ _ _ _ _ _ _ d n).trans ?_
    congr 1
    exact Finset.sum_congr rfl fun r _ => by rw [hv]

end

/-- THE LAST DIVISION: after all chunks the quotient is attention's answer over the keys not after the query. -/
theorem Good.out {s : Fin 1024 → Fin 2304 → ℝ} {x4 : FVec Ideal S1x1x128x2304 .bf16} {i : ℕ} {st : St} (h : Good s x4 i i st)
    (x : Fin 1024 → Fin 2304 → ℝ) (hx : ∀ n k, s n k * Real.log 2 = x n k) (d : Fin 128) (n : Fin 1024) :
    k0_pay30 (F := Ideal) st.2.1 st.2.2 (ix2 d n) = attn (x n) (fun k => x4 (ix4 0 0 d k)) (causal i n) := by
  rw [pay30_at]
  have h' := h n d
  rw [seen_all] at h'
  exact h'.div ⟨0, by simp [causal]⟩ (x n) (hx n)

end Cert.KernelIdeal.Attn

end
-- ==== Proof.Loop.lean ====
/- One trip of the loop over the chunks before the diagonal, and the whole loop, over the blocks it loads from. -/
module

public import proofs.«01_k».proof.Proof.State

@[expose] public section

set_option maxRecDepth 16384

noncomputable section

open Idealize.ShloMosaic Idealize.ShloMosaic.TcCoe Idealize.ShloMosaic.Tactic Idealize.SL Idealize.SL.RA Idealize.SL.BI Idealize.SL.Sem

namespace Cert.KernelIdeal.Attn

open Cert.KernelIdeal Cert.KernelIdeal.Gen Cert.Attn

/-- A load through a unit-stride rectangle of a whole memref held at `X` reads `X` at the placed index. -/
theorem readAt_unit_at {κ : Kind} {sp : Space} {S : Shape} {e : EltTy} {m : Memref sig κ sp S e} (h : m.IsWhole) (X : S.Idx → Elt Ideal e)
    (off size : Fin S.rank → ℕ) (inb : ∀ a, off a + size a ≤ S.size a) (x : (Rect.unit off size inb).toLoadRect.shape.Idx) (i : S.Idx)
    (off' : Fin S.rank → ℕ) (ho : off = off') (hi : ∀ a, (i a : ℕ) = off' a + x a) :
    View.readAt (Elt Ideal) m.view (Rect.unit off size inb).toLoadRect (h.unread X) x = X i :=
  (congrFun (h.read_unread X) _).trans (View.ld_unit_apply_of X off size inb x i fun a => (hi a).trans (congrArg (fun z => z + (x a : ℕ)) (congrFun ho a).symm))

/-- The loop runs over the chunks before the diagonal one. -/
theorem trips_eq : ∀ i : grid0.Coords, (k0_t1_loop i).trips = (i 2).val := by
  intro i
  have key : ∀ j : Fin 18, Scf.trips 0#32 (Scalar.addi 0#32 (Scalar.muli (Scalar.divsi (Scalar.subi (BitVec.ofNat 32 j.val) 0#32) 1#32) 1#32)) 1#32 = j.val := by
    decide +kernel
  exact key (i 2)

variable (𝒱 : Variants) (c : Dev nD) (bd : Option 𝒱.V) (i : grid0.Coords) (arg3 : Memref sig .tc .vmem S1x1x8x128x128 .bf16) (harg3 : arg3.IsWhole) (arg4 : Memref sig .tc .vmem S1x1x8x128 .f32) (harg4 : arg4.IsWhole) (arg5 : Memref sig .tc .vmem S1x1x2304x128 .bf16) (harg5 : arg5.IsWhole) (arg6 : Memref sig .tc .vmem S1x1x36x128 .f32) (harg6 : arg6.IsWhole) (arg7 : Memref sig .tc .vmem S1x1x128x2304 .bf16) (harg7 : arg7.IsWhole) (arg8 : Memref sig .tc .vmem S1x128x1024 .bf16) (harg8 : arg8.IsWhole) (v2 : FVec Ideal S1024x128 .bf16) (v15 : FVec Ideal S1x1024 .f32) (v57 : FVec Ideal S1x1024 .f32) (v66 : FVec Ideal S1x1024 .f32) (v74 : FVec Ideal S128x1024 .f32) (c0_i32_29 : BitVec 32) (v78 : BitVec 32)
  (x2 : FVec Ideal S1x1x2304x128 .bf16) (x3 : FVec Ideal S1x1x36x128 .f32) (x4 : FVec Ideal S1x1x128x2304 .bf16)

/-- ONE TRIP. Trip `k` loads chunk `k` of the key codes, its two key scales and its columns of the values, and moves the
    state by the payloads of `Good.trip`. -/
theorem trip_eq (k : Fin (k0_t1_loop i).trips) (hk : k.val < 18) (acc : St) :
    ∃ (kc : FVec Ideal S1x1x128x128 .bf16) (ka kb : FVec Ideal S1x1x1x128 .f32) (vc : FVec Ideal S1x1x128x128 .bf16),
      (∀ r d, kc (ix4 0 0 r d) = x2 (ix4 0 0 (key ⟨k.val, hk⟩ r) d))
      ∧ ka (ix4 0 0 0 0) = x3 (ix4 0 0 (segLo ⟨k.val, hk⟩) 0)
      ∧ kb (ix4 0 0 0 0) = x3 (ix4 0 0 (segHi ⟨k.val, hk⟩) 0)
      ∧ (∀ d r, vc (ix4 0 0 d r) = x4 (ix4 0 0 d (key ⟨k.val, hk⟩ r)))
      ∧ tripR_k0_t1 (F := Ideal) 𝒱 c bd i arg3 harg3 arg4 harg4 arg5 harg5 arg6 harg6 arg7 harg7 arg8 harg8 v2 v15 v57 v66 v74 c0_i32_29 v78 (harg5.unread x2) (harg6.unread x3) (harg7.unread x4) k acc
        = (k0_pay5 v2 v15 acc.1 kc ka kb, k0_pay8 v2 v15 acc.1 acc.2.1 kc ka kb,
            k0_pay28 acc.2.2 (k0_pay6 v2 v15 acc.1 kc ka kb) (k0_pay7 v2 v15 acc.1 kc ka kb) vc) := by
  refine ⟨View.readAt (Elt Ideal) arg5.view (Rect.unit (s := S1x1x2304x128) (k0_off4 i k) S1x1x128x128.size (k0_off4_inb i k)).toLoadRect (harg5.unread x2),
    View.readAt (Elt Ideal) arg6.view (Rect.unit (s := S1x1x36x128) (k0_off5 i k 0#32) S1x1x1x128.size (k0_off5_inb i k 0)).toLoadRect (harg6.unread x3),
    View.readAt (Elt Ideal) arg6.view (Rect.unit (s := S1x1x36x128) (k0_off5 i k 1#32) S1x1x1x128.size (k0_off5_inb i k 1)).toLoadRect (harg6.unread x3),
    View.readAt (Elt Ideal) arg7.view (Rect.unit (s := S1x1x128x2304) (k0_off6 i k) S1x1x128x128.size (k0_off6_inb i k)).toLoadRect (harg7.unread x4),
    fun r d => ?_, ?_, ?_, fun d r => ?_, ?_⟩
  · exact readAt_unit_at harg5 x2 _ _ _ _ _ _ (k0_off4_eq i k) fun a => by fin_cases a <;> simp [key]
  · exact readAt_unit_at harg6 x3 _ _ _ _ _ _ (k0_off5_eq i k 0) fun a => by fin_cases a <;> simp [segLo]
  · exact readAt_unit_at harg6 x3 _ _ _ _ _ _ (k0_off5_eq i k 1) fun a => by fin_cases a <;> simp [segHi]
  · exact readAt_unit_at harg7 x4 _ _ _ _ _ _ (k0_off6_eq i k) fun a => by fin_cases a <;> simp [key]
  · delta tripR_k0_t1; unfold trip_k0_t1; dsimp only
    rfl

/-- THE LOOP. From a state that holds of the diagonal chunk, the state before trip `n` holds of the diagonal chunk and the
    first `n` chunks. -/
theorem loop_good (x0 : FVec Ideal S1x1x8x128x128 .bf16) (x1 : FVec Ideal S1x1x8x128 .f32) (s : Fin 1024 → Fin 2304 → ℝ)
    (hs : ∀ n k, kscore x0 x1 x2 x3 n k = (s n k : EReal)) (init : St) (h0 : Good s x4 (i 2).val 0 init) :
    ∀ n : ℕ, n ≤ (i 2).val → Good s x4 (i 2).val n
      (st_k0_t1 (F := Ideal) 𝒱 c bd i arg3 harg3 arg4 harg4 arg5 harg5 arg6 harg6 arg7 harg7 arg8 harg8 (k0_pay14 x0) (k0_pay15 x1) v57 v66 v74 c0_i32_29 v78 (harg5.unread x2) (harg6.unread x3) (harg7.unread x4) init n) := by
  intro n
  induction n with
  | zero => intro _; rw [st_k0_t1_zero]; exact h0
  | succ n ih =>
    intro hn
    have hi : (i 2).val < 18 := (i 2).isLt
    have hlt : n < (k0_t1_loop i).trips := by rw [trips_eq]; omega
    have hst := st_k0_t1_succ (F := Ideal) 𝒱 c bd i arg3 harg3 arg4 harg4 arg5 harg5 arg6 harg6 arg7 harg7 arg8 harg8 (k0_pay14 x0) (k0_pay15 x1) v57 v66 v74 c0_i32_29 v78 (harg5.unread x2) (harg6.unread x3) (harg7.unread x4) init ⟨n, hlt⟩
    obtain ⟨kc, ka, kb, vc, hk, ha, hb, hv, e⟩ := trip_eq 𝒱 c bd i arg3 harg3 arg4 harg4 arg5 harg5 arg6 harg6 arg7 harg7 arg8 harg8 (k0_pay14 x0) (k0_pay15 x1) v57 v66 v74 c0_i32_29 v78 x2 x3 x4 ⟨n, hlt⟩ (by dsimp only; omega)
      (st_k0_t1 (F := Ideal) 𝒱 c bd i arg3 harg3 arg4 harg4 arg5 harg5 arg6 harg6 arg7 harg7 arg8 harg8 (k0_pay14 x0) (k0_pay15 x1) v57 v66 v74 c0_i32_29 v78 (harg5.unread x2) (harg6.unread x3) (harg7.unread x4) init n)
    rw [hst, e]
    exact Good.trip x0 x1 x2 x3 x4 s hs ⟨n, by omega⟩ kc ka kb vc hk ha hb hv (by dsimp only; omega) (ih (by omega))

end Cert.KernelIdeal.Attn

end
-- ==== Proof.Block.lean ====
/- What one grid point writes: softmax attention of the block's queries over the keys not after them. -/
module

public import proofs.«01_k».proof.Proof.Loop
public import proofs.«01_k».proof.Proof.Gen.KernelIdeal.Frame
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Tactic Idealize.SL.Sem

namespace Cert.KernelIdeal.Attn

open Cert.KernelIdeal Cert.KernelIdeal.Gen Cert.Attn

section

variable (l : FVec Ideal S1x1024 .f32) (a : FVec Ideal S128x1024 .f32)

/-! ### The eight stored tiles

Tile `p` is columns `128 p … 128 p + 127` of the quotient, transposed. -/

theorem tile0 (x : S1x128x128.Idx) (d : Fin 128) (n : Fin 1024) (hd : d.val = x 2) (hn : n.val = 0 + x 1) :
    k0_pay31 (F := Ideal) l a x = k0_pay30 (F := Ideal) l a (ix2 d n) := by
  generalize hT : k0_pay30 (F := Ideal) l a = T
  unfold k0_pay31
  rw [hT]
  pointwise
  blk_ext

theorem tile1 (x : S1x128x128.Idx) (d : Fin 128) (n : Fin 1024) (hd : d.val = x 2) (hn : n.val = 128 + x 1) :
    k0_pay32 (F := Ideal) l a x = k0_pay30 (F := Ideal) l a (ix2 d n) := by
  generalize hT : k0_pay30 (F := Ideal) l a = T
  unfold k0_pay32
  rw [hT]
  pointwise
  blk_ext

theorem tile2 (x : S1x128x128.Idx) (d : Fin 128) (n : Fin 1024) (hd : d.val = x 2) (hn : n.val = 256 + x 1) :
    k0_pay33 (F := Ideal) l a x = k0_pay30 (F := Ideal) l a (ix2 d n) := by
  generalize hT : k0_pay30 (F := Ideal) l a = T
  unfold k0_pay33
  rw [hT]
  pointwise
  blk_ext

theorem tile3 (x : S1x128x128.Idx) (d : Fin 128) (n : Fin 1024) (hd : d.val = x 2) (hn : n.val = 384 + x 1) :
    k0_pay34 (F := Ideal) l a x = k0_pay30 (F := Ideal) l a (ix2 d n) := by
  generalize hT : k0_pay30 (F := Ideal) l a = T
  unfold k0_pay34
  rw [hT]
  pointwise
  blk_ext

theorem tile4 (x : S1x128x128.Idx) (d : Fin 128) (n : Fin 1024) (hd : d.val = x 2) (hn : n.val = 512 + x 1) :
    k0_pay35 (F := Ideal) l a x = k0_pay30 (F := Ideal) l a (ix2 d n) := by
  generalize hT : k0_pay30 (F := Ideal) l a = T
  unfold k0_pay35
  rw [hT]
  pointwise
  blk_ext

theorem tile5 (x : S1x128x128.Idx) (d : Fin 128) (n : Fin 1024) (hd : d.val = x 2) (hn : n.val = 640 + x 1) :
    k0_pay1 (F := Ideal) (k0_pay36 l a) x = k0_pay30 (F := Ideal) l a (ix2 d n) := by
  generalize hT : k0_pay30 (F := Ideal) l a = T
  unfold k0_pay1 k0_pay36
  rw [hT]
  pointwise
  blk_ext

theorem tile6 (x : S1x128x128.Idx) (d : Fin 128) (n : Fin 1024) (hd : d.val = x 2) (hn : n.val = 768 + x 1) :
    k0_pay2 (F := Ideal) (k0_pay30 l a) x = k0_pay30 (F := Ideal) l a (ix2 d n) := by
  generalize k0_pay30 (F := Ideal) l a = T
  unfold k0_pay2
  pointwise
  blk_ext

theorem tile7 (x : S1x128x128.Idx) (d : Fin 128) (n : Fin 1024) (hd : d.val = x 2) (hn : n.val = 896 + x 1) :
    k0_pay3 (F := Ideal) (k0_pay30 l a) x = k0_pay30 (F := Ideal) l a (ix2 d n) := by
  generalize k0_pay30 (F := Ideal) l a = T
  unfold k0_pay3
  pointwise
  blk_ext

end

/-! ### The second loop runs no trip -/

theorem t2_trips : ∀ i : grid0.Coords, (k0_t2_loop i).trips = 0 := by
  intro i
  have key : ∀ j : Fin 18, Scf.trips (Scalar.addi 0#32 (Scalar.muli (Scalar.divsi (Scalar.subi (BitVec.ofNat 32 j.val) 0#32) 1#32) 1#32)) (Scalar.addi 0#32 (Scalar.subi (BitVec.ofNat 32 j.val) 0#32)) 1#32 = 0 := by
    decide +kernel
  exact key (i 2)

/-- A state is what it was after the second loop. -/
theorem t2_good (𝒱 : Variants) (c : Dev nD) (bd : Option 𝒱.V) (i : grid0.Coords) (arg3 : Memref sig .tc .vmem S1x1x8x128x128 .bf16) (harg3 : arg3.IsWhole) (arg4 : Memref sig .tc .vmem S1x1x8x128 .f32) (harg4 : arg4.IsWhole) (arg5 : Memref sig .tc .vmem S1x1x2304x128 .bf16) (harg5 : arg5.IsWhole) (arg6 : Memref sig .tc .vmem S1x1x36x128 .f32) (harg6 : arg6.IsWhole) (arg7 : Memref sig .tc .vmem S1x1x128x2304 .bf16) (harg7 : arg7.IsWhole) (arg8 : Memref sig .tc .vmem S1x128x1024 .bf16) (harg8 : arg8.IsWhole) (v2 : FVec Ideal S1024x128 .bf16) (v15 : FVec Ideal S1x1024 .f32) (v57 : FVec Ideal S1x1024 .f32) (v66 : FVec Ideal S1x1024 .f32) (v74 : FVec Ideal S128x1024 .f32) (c0_i32_29 v78 v79 : BitVec 32)
    (X_arg5 : BufTy.Contents (Elt Ideal) arg5.view.ty) (X_arg6 : BufTy.Contents (Elt Ideal) arg6.view.ty) (X_arg7 : BufTy.Contents (Elt Ideal) arg7.view.ty)
    (init : St) (s : Fin 1024 → Fin 2304 → ℝ) (x4 : FVec Ideal S1x1x128x2304 .bf16) (a b : ℕ) (h : Good s x4 a b init) :
    Good s x4 a b (st_k0_t2 (F := Ideal) 𝒱 c bd i arg3 harg3 arg4 harg4 arg5 harg5 arg6 harg6 arg7 harg7 arg8 harg8 v2 v15 v57 v66 v74 c0_i32_29 v78 v79 X_arg5 X_arg6 X_arg7 init (k0_t2_loop i).trips) := by
  rw [t2_trips, st_k0_t2_zero]
  exact h

/-- A load through a unit-stride rectangle reads at the placed index. -/
theorem ld_unit_at {S : Shape} {e : EltTy} (X : S.Idx → Elt Ideal e) (off size : Fin S.rank → ℕ) (inb : ∀ a, off a + size a ≤ S.size a)
    (x : (Rect.unit off size inb).shape.Idx) (i : S.Idx) (off' : Fin S.rank → ℕ) (ho : off = off') (hi : ∀ a, (i a : ℕ) = off' a + x a) :
    View.ld X (Rect.unit off size inb) x = X i :=
  View.ld_unit_apply_of X off size inb x i fun a => (hi a).trans (congrArg (fun z => z + (x a : ℕ)) (congrFun ho a).symm)

/-- The state after the first loop holds of every chunk up to the diagonal one. -/
theorem t1_good (𝒱 : Variants) (c : Dev nD) (bd : Option 𝒱.V) (i : grid0.Coords) (arg3 : Memref sig .tc .vmem S1x1x8x128x128 .bf16) (harg3 : arg3.IsWhole) (arg4 : Memref sig .tc .vmem S1x1x8x128 .f32) (harg4 : arg4.IsWhole) (arg5 : Memref sig .tc .vmem S1x1x2304x128 .bf16) (harg5 : arg5.IsWhole) (arg6 : Memref sig .tc .vmem S1x1x36x128 .f32) (harg6 : arg6.IsWhole) (arg7 : Memref sig .tc .vmem S1x1x128x2304 .bf16) (harg7 : arg7.IsWhole) (arg8 : Memref sig .tc .vmem S1x128x1024 .bf16) (harg8 : arg8.IsWhole) (v57 : FVec Ideal S1x1024 .f32) (v66 : FVec Ideal S1x1024 .f32) (v74 : FVec Ideal S128x1024 .f32) (c0_i32_29 v78 : BitVec 32)
    (x2 : FVec Ideal S1x1x2304x128 .bf16) (x3 : FVec Ideal S1x1x36x128 .f32) (x4 : FVec Ideal S1x1x128x2304 .bf16)
    (x0 : FVec Ideal S1x1x8x128x128 .bf16) (x1 : FVec Ideal S1x1x8x128 .f32) (s : Fin 1024 → Fin 2304 → ℝ)
    (hs : ∀ n k, kscore x0 x1 x2 x3 n k = (s n k : EReal)) (init : St) (h0 : Good s x4 (i 2).val 0 init) :
    Good s x4 (i 2).val (i 2).val
      (st_k0_t1 (F := Ideal) 𝒱 c bd i arg3 harg3 arg4 harg4 arg5 harg5 arg6 harg6 arg7 harg7 arg8 harg8 (k0_pay14 x0) (k0_pay15 x1) v57 v66 v74 c0_i32_29 v78 (harg5.unread x2) (harg6.unread x3) (harg7.unread x4) init (k0_t1_loop i).trips) := by
  rw [trips_eq]
  exact loop_good 𝒱 c bd i arg3 harg3 arg4 harg4 arg5 harg5 arg6 harg6 arg7 harg7 arg8 harg8 v57 v66 v74 c0_i32_29 v78 x2 x3 x4 x0 x1 s hs init h0 _ le_rfl

variable (m : (ℓ : Loc nD τ sig) → Buf (Elt Ideal) ℓ) (c : Dev nD) (t : Fin cfg0.N)

/-- THE POINT'S BLOCK. Some state that holds of every chunk up to the diagonal one is what the point divides and stores. -/
theorem outs_eq (s : Fin 1024 → Fin 2304 → ℝ)
    (hs : ∀ n k, kscore (iblk m c 0 t) (iblk m c 1 t) (iblk m c 2 t) (iblk m c 3 t) n k = (s n k : EReal)) :
    ∃ st : St, Good s (iblk m c 4 t) (grid0.coords t 2).val (grid0.coords t 2).val st
      ∧ ∀ (y : S1x128x1024.Idx) (d : Fin 128) (n : Fin 1024), d.val = (y 2).val % 128 → n.val = (y 2).val / 128 * 128 + y 1 →
        (outsAt0 m c t : FVec Ideal S1x128x1024 .bf16) y = k0_pay30 (F := Ideal) st.2.1 st.2.2 (ix2 d n) := by
  refine ⟨?st, ?good, fun y d n hd hn => ?tiles⟩
  case tiles =>
    unfold outsAt0
    frame_out
    canon_tiles x h
    case piece7 => exact tile0 _ _ x d n (by omega) (by omega)
    case piece6 => exact tile1 _ _ x d n (by omega) (by omega)
    case piece5 => exact tile2 _ _ x d n (by omega) (by omega)
    case piece4 => exact tile3 _ _ x d n (by omega) (by omega)
    case piece3 => exact tile4 _ _ x d n (by omega) (by omega)
    case piece2 => exact tile5 _ _ x d n (by omega) (by omega)
    case piece1 => exact tile6 _ _ x d n (by omega) (by omega)
    case piece0 => exact tile7 _ _ x d n (by omega) (by omega)
  case good =>
    apply t2_good
    apply t1_good _ _ _ _ _ _ _ _ _ _ _ _ _ _ _ _ _ _ _ _ _ (iblk m c 2 t) (iblk m c 3 t) (iblk m c 4 t) (iblk m c 0 t) (iblk m c 1 t) s hs
    have h18 : (grid0.coords t 2).val < 18 := (grid0.coords t 2).isLt
    refine Good.diag (iblk m c 0 t) (iblk m c 1 t) (iblk m c 2 t) (iblk m c 3 t) (iblk m c 4 t) s hs ⟨(grid0.coords t 2).val, h18⟩ _ _ _ _ (fun r d => ?_) ?_ ?_ (fun d r => ?_)
    · exact ld_unit_at (iblk m c 2 t) _ _ _ _ _ _ (k0_off1_eq _) fun a => by fin_cases a <;> simp [key]
    · exact ld_unit_at (iblk m c 3 t) _ _ _ _ _ _ (k0_off2_eq _ 0) fun a => by fin_cases a <;> simp [segLo]
    · exact ld_unit_at (iblk m c 3 t) _ _ _ _ _ _ (k0_off2_eq _ 1) fun a => by fin_cases a <;> simp [segHi]
    · exact ld_unit_at (iblk m c 4 t) _ _ _ _ _ _ (k0_off3_eq _) fun a => by fin_cases a <;> simp [key]

end Cert.KernelIdeal.Attn

end
-- ==== Proof.Ref.lean ====
/- What the reference program's result holds at one index: softmax attention over the keys not after the query, written with
   the scores as products of extended reals. -/
module

public import proofs.«01_k».proof.Proof.Online
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Attn

open Cert.ReferenceIdeal Cert.ReferenceIdeal.Gen Cert.ReferenceIdeal.Value Cert.ReferenceIdeal.Facts

section

variable (a0 : FVec Ideal S12x18x16x128x128 .bf16) (a1 : FVec Ideal S12x18x16x128 .f32) (a2 : FVec Ideal S12x2x2304x128 .bf16)
  (a3 : FVec Ideal S12x2x36x128 .f32) (a4 : FVec Ideal S12x2x128x2304 .bf16)

/-- The masked scores. -/
def scores : FVec Ideal S12x2x8x2304x2304 .f32 :=
  select (broadcastInDim S12x2x8x2304x2304 ![3, 4] bcast_S2304x2304_S12x2x8x2304x2304_3_4 (cmpi .sle (broadcastInDim S2304x2304 ![0, 1] bcast_S1x2304_S2304x2304_0_1 (broadcastInDim S1x2304 ![1] bcast_S2304_S1x2304_1 (iotaInDim S2304 32 0))) (broadcastInDim S2304x2304 ![0, 1] bcast_S2304x1_S2304x2304_0_1 (broadcastInDim S2304x1 ![0] bcast_S2304_S2304x1_0 (iotaInDim S2304 32 0))))) (mulf (mulf (mulf (Host.dotGeneral dot_S12x2x8x2304x128_S12x2x2304x128_S12x2x8x2304x2304_4_3_23_2_01_01 none (shapeCast _ (transpose S12x16x18x128x128 [0, 2, 1, 3, 4] a0 transposes_S12x18x16x128x128_S12x16x18x128x128_0_2_1_3_4) shapeCasts_S12x16x18x128x128_S12x2x8x2304x128) a2) (broadcastInDim S12x2x8x2304x2304 ![0, 1, 2, 3, 4] bcast_S12x2x8x2304x1_S12x2x8x2304x2304_0_1_2_3_4 (broadcastInDim S12x2x8x2304x1 ![0, 1, 2, 3] bcast_S12x2x8x2304_S12x2x8x2304x1_0_1_2_3 (shapeCast _ (transpose S12x16x18x128 [0, 2, 1, 3] a1 transposes_S12x18x16x128_S12x16x18x128_0_2_1_3) shapeCasts_S12x16x18x128_S12x2x8x2304)))) (broadcastInDim S12x2x8x2304x2304 ![0, 1, 2, 3, 4] bcast_S12x2x1x1x2304_S12x2x8x2304x2304_0_1_2_3_4 (broadcastInDim S12x2x1x1x2304 ![0, 1, 4] bcast_S12x2x2304_S12x2x1x1x2304_0_1_4 (shapeCast _ (broadcastInDim S12x2x36x64 ![0, 1, 2] bcast_S12x2x36_S12x2x36x64_0_1_2 (shapeCast _ (extractStridedSlice S12x2x36x1 ![0, 0, 0, 0] a3 slices_S12x2x36x128_S12x2x36x1_0_0_0_0) shapeCasts_S12x2x36x1_S12x2x36)) shapeCasts_S12x2x36x64_S12x2x2304)))) (broadcastInDim S12x2x8x2304x2304 ![] bcast_S_S12x2x8x2304x2304 (constant S_ .f32 0x3DB504F3#32))) (broadcastInDim S12x2x8x2304x2304 ![] bcast_S_S12x2x8x2304x2304 (id (constant S_ .f32 0xFF800000#32)))

/-- The maximum of each row of scores. -/
def rowMax (S : FVec Ideal S12x2x8x2304x2304 .f32) : FVec Ideal S12x2x8x2304 .f32 :=
  maximumf (broadcastInDim S12x2x8x2304 ![] bcast_S_S12x2x8x2304 (constant S_ .f32 0xFF800000#32)) (Host.reduce FloatOps.maximumf S (constant S_ .f32 0xFF800000#32) reducesTo_S12x2x8x2304x2304_S12x2x8x2304_d4 h_S_)

/-- The exponentials of the scores less their row's maximum. -/
def exps (S : FVec Ideal S12x2x8x2304x2304 .f32) : FVec Ideal S12x2x8x2304x2304 .f32 :=
  Host.exp (subf S (broadcastInDim S12x2x8x2304x2304 ![0, 1, 2, 3, 4] bcast_S12x2x8x2304x1_S12x2x8x2304x2304_0_1_2_3_4 (broadcastInDim S12x2x8x2304x1 ![0, 1, 2, 3] bcast_S12x2x8x2304_S12x2x8x2304x1_0_1_2_3 (rowMax S))))

/-- Each exponential over its row's sum. -/
def probs (E : FVec Ideal S12x2x8x2304x2304 .f32) : FVec Ideal S12x2x8x2304x2304 .bf16 :=
  truncf .bf16 (Host.divf E (broadcastInDim S12x2x8x2304x2304 ![0, 1, 2, 3, 4] bcast_S12x2x8x2304x1_S12x2x8x2304x2304_0_1_2_3_4 (broadcastInDim S12x2x8x2304x1 ![0, 1, 2, 3] bcast_S12x2x8x2304_S12x2x8x2304x1_0_1_2_3 (Host.reduceAdd E (constant S_ .f32 0x00000000#32) reducesTo_S12x2x8x2304x2304_S12x2x8x2304_d4 h_S_)))) bitsLt_bf16_f32

/-- The weighted sums of the values, laid out as the result. -/
def out (P : FVec Ideal S12x2x8x2304x2304 .bf16) : FVec Ideal S12x2304x2048 .bf16 :=
  shapeCast _ (transpose S12x2304x2x8x128 [0, 3, 1, 2, 4] (truncf .bf16 (Host.dotGeneral dot_S12x2x8x2304x2304_S12x2x128x2304_S12x2x8x2304x128_4_3_23_2_01_01 none P a4) bitsLt_bf16_f32) transposes_S12x2x8x2304x128_S12x2304x2x8x128_0_3_1_2_4) shapeCasts_S12x2304x2x8x128_S12x2304x2048

theorem out_at (P : FVec Ideal S12x2x8x2304x2304 .bf16) (b : Fin 12) (q : Fin 2304) (h : Fin 2) (g : Fin 8) (d : Fin 128) (e : Fin 2048)
    (he : e.val = h.val * 1024 + g.val * 128 + d.val) :
    out a4 P (ix3 b q e) = ∑ k : Fin 2304, P (ix5 b h g q k) * a4 (ix4 b h d k) := by
  pointwise [out]
  have h1 : (⟨e.val / 1024, by omega⟩ : Fin 2) = h := Fin.ext (by dsimp only; omega)
  have h2 : (⟨e.val / 128 % 8, by omega⟩ : Fin 8) = g := Fin.ext (by dsimp only; omega)
  have h3 : (⟨e.val % 128, by omega⟩ : Fin 128) = d := Fin.ext (by dsimp only; omega)
  rw [h1, h2, h3]

theorem probs_at (E : FVec Ideal S12x2x8x2304x2304 .f32) (b : Fin 12) (h : Fin 2) (g : Fin 8) (q k : Fin 2304) :
    probs E (ix5 b h g q k) = Ideal.div (E (ix5 b h g q k)) (0 + ∑ j : Fin 2304, E (ix5 b h g q j)) := by
  pointwise [probs]

theorem exps_at (S : FVec Ideal S12x2x8x2304x2304 .f32) (b : Fin 12) (h : Fin 2) (g : Fin 8) (q k : Fin 2304) :
    exps S (ix5 b h g q k) = Ideal.exp (S (ix5 b h g q k) - rowMax S (ix4 b h g q)) := by
  pointwise [exps]

/-! ### The row maximum, by stages

Each stage is stated with the array it reads as a variable: a maximum over an array of this size must never be evaluated. -/

theorem hred : S12x2x8x2304x2304.Reduces [4] S12x2x8x2304 := by decide

theorem lift_eq (b : Fin 12) (h : Fin 2) (g : Fin 8) (q : Fin 2304) (k : Fin 2304) : hred.lift (ix4 b h g q) k = ix5 b h g q k := by
  funext a
  fin_cases a <;> rfl

theorem neg_inf : Ideal.ofBits .f32 0xFF800000#32 = ⊥ := by simp [Ideal.ofBits, Ideal.ieee]

theorem max_at (R : FVec Ideal S12x2x8x2304 .f32) (i : S12x2x8x2304.Idx) :
    maximumf (broadcastInDim S12x2x8x2304 ![] bcast_S_S12x2x8x2304 (constant (F := Ideal) S_ .f32 0xFF800000#32)) R i = max ⊥ (R i) := by
  rw [← neg_inf]; rfl

theorem reduce_at (S : FVec Ideal S12x2x8x2304x2304 .f32) (b : Fin 12) (h : Fin 2) (g : Fin 8) (q : Fin 2304) :
    Host.reduce (FloatOps.maximumf (F := Ideal) (φ := .f32)) S (constant S_ .f32 0xFF800000#32) reducesTo_S12x2x8x2304x2304_S12x2x8x2304_d4 h_S_ (ix4 b h g q)
      = Finset.univ.fold max ⊥ fun k : Fin 2304 => S (ix5 b h g q k) := by
  refine (Host.reduce_eq_fold_single (FloatOps.maximumf (F := Ideal) (φ := .f32)) S (constant S_ .f32 0xFF800000#32) reducesTo_S12x2x8x2304x2304_S12x2x8x2304_d4 hred h_S_ (ix4 b h g q)).trans ?_
  have e2 : S ∘ hred.lift (ix4 b h g q) = fun k : Fin 2304 => S (ix5 b h g q k) := funext fun k => congrArg S (lift_eq b h g q k)
  have e3 : constant (F := Ideal) S_ .f32 0xFF800000#32 (Shape.Idx.first h_S_) = (⊥ : EReal) := neg_inf
  rw [e2, e3]
  rfl

theorem rowMax_at (S : FVec Ideal S12x2x8x2304x2304 .f32) (b : Fin 12) (h : Fin 2) (g : Fin 8) (q : Fin 2304) :
    rowMax S (ix4 b h g q) = max ⊥ (Finset.univ.fold max ⊥ fun k : Fin 2304 => S (ix5 b h g q k)) := by
  unfold rowMax
  exact (max_at _ _).trans (congrArg (max ⊥) (reduce_at S b h g q))

/-- The reference's score scale, as printed. -/
def smScale : EReal := ((11863283 / 134217728 : ℝ) : EReal)

theorem smScale_eq : Ideal.ofBits .f32 0x3DB504F3#32 = smScale := by
  simp [smScale, Ideal.ofBits, Ideal.ieee, -EReal.coe_mul]; norm_num

theorem mask_iff (q k : Fin 2304) :
    IntOp.cmpi CmpIPredicate.sle (BitVec.ofNat 32 k.val) (BitVec.ofNat 32 q.val) = if k.val ≤ q.val then 1#1 else 0#1 := by
  have hs : (BitVec.ofNat 32 k.val).sle (BitVec.ofNat 32 q.val) = decide (k.val ≤ q.val) := by
    rw [BitVec.sle_eq_decide, BitVec.toInt_ofNat', BitVec.toInt_ofNat']
    congr 1
    rw [eq_iff_iff]
    simp only [Int.bmod]
    omega
  show BitVec.ofBool ((BitVec.ofNat 32 k.val).sle (BitVec.ofNat 32 q.val)) = _
  rw [hs]
  split_ifs with h <;> simp [h]

/-- The block of 128 queries a query lies in, its row there, the head among the sixteen, and the scale a key's codes carry. -/
def qblk (q : Fin 2304) : Fin 18 := ⟨q.val / 128, by omega⟩
def qrow (q : Fin 2304) : Fin 128 := ⟨q.val % 128, by omega⟩
def head (h : Fin 2) (g : Fin 8) : Fin 16 := ⟨h.val * 8 + g.val, by omega⟩
def seg (k : Fin 2304) : Fin 36 := ⟨k.val / 64, by omega⟩

/-- The reference's score of key `k` for query `q` of head `(h, g)` of batch `b`. -/
def score (b : Fin 12) (h : Fin 2) (g : Fin 8) (q k : Fin 2304) : EReal :=
  (∑ d : Fin 128, a0 (ix5 b (qblk q) (head h g) (qrow q) d) * a2 (ix4 b h k d)) * a1 (ix4 b (qblk q) (head h g) (qrow q))
    * a3 (ix4 b h (seg k) 0) * smScale

theorem scores_at (b : Fin 12) (h : Fin 2) (g : Fin 8) (q k : Fin 2304) :
    scores a0 a1 a2 a3 (ix5 b h g q k) = if k.val ≤ q.val then score a0 a1 a2 a3 b h g q k else ⊥ := by
  pointwise [scores]
  rw [mask_iff, smScale_eq]
  split_ifs with hk
  · rfl
  · exact neg_inf

/-- THE REFERENCE'S RESULT. Where the scores of one query are the real numbers `x`, the result at that query, head and
    feature is attention's answer over the keys not after the query. -/
theorem res_attn (b : Fin 12) (q : Fin 2304) (h : Fin 2) (g : Fin 8) (d : Fin 128) (e : Fin 2048)
    (he : e.val = h.val * 1024 + g.val * 128 + d.val) (x : Fin 2304 → ℝ) (hx : ∀ k, score a0 a1 a2 a3 b h g q k = (x k : EReal)) :
    out a4 (probs (exps (scores a0 a1 a2 a3))) (ix3 b q e)
      = Cert.Attn.attn x (fun k => a4 (ix4 b h d k)) (Finset.univ.filter fun k : Fin 2304 => k.val ≤ q.val) := by
  rw [out_at a4 _ b q h g d e he]
  rw [← Cert.Attn.whole x (fun k => a4 (ix4 b h d k)) (Finset.univ.filter fun k : Fin 2304 => k.val ≤ q.val)
    ⟨⟨0, by omega⟩, by simp⟩ (fun k => scores a0 a1 a2 a3 (ix5 b h g q k))
    (fun k => by rw [scores_at, hx]; simp only [Finset.mem_filter, Finset.mem_univ, true_and]) (rowMax_at _ b h g q)]
  refine Finset.sum_congr rfl fun k _ => ?_
  rw [probs_at, exps_at]
  simp only [exps_at]

end

/-- The result is these five stages composed. -/
theorem res_eq (m : (ℓ : Loc nD τ sig) → Buf (Elt Ideal) ℓ) (c : Dev nD) :
    res_main_v40 m c = out (m ((c.tc : Thread nD τ).loc main_arg4)) (probs (exps (scores (m ((c.tc : Thread nD τ).loc main_arg0)) (m ((c.tc : Thread nD τ).loc main_arg1)) (m ((c.tc : Thread nD τ).loc main_arg2)) (m ((c.tc : Thread nD τ).loc main_arg3))))) := by
  rfl

end Cert.ReferenceIdeal.Attn

end
-- ==== Proof.Score.lean ====
/- The scores as real numbers. Where the codes and scales are real, the reference's score is the real number `X`, and the
   kernel's score is `X / log 2`: the kernel takes powers of two where the reference takes exponentials. -/
module

public import proofs.«01_k».proof.Proof.Pay
public import proofs.«01_k».proof.Proof.Ref

@[expose] public section

set_option maxRecDepth 16384

noncomputable section

open Idealize.ShloMosaic Idealize.ShloMosaic.TcCoe

namespace Cert.Score

open Cert.ReferenceIdeal (S12x18x16x128x128 S12x18x16x128 S12x2x2304x128 S12x2x36x128)
open Cert.ReferenceIdeal.Attn (qblk head score)

variable (a0 : FVec Ideal S12x18x16x128x128 .bf16) (a1 : FVec Ideal S12x18x16x128 .f32) (a2 : FVec Ideal S12x2x2304x128 .bf16)
  (a3 : FVec Ideal S12x2x36x128 .f32)

/-- The score of key `k` for query `q` of head `(h, g)` of batch `b`: the product of the codes, times both scales, times
    `1/√128` as printed. -/
def X (b : Fin 12) (h : Fin 2) (g : Fin 8) (q k : Fin 2304) : ℝ :=
  (∑ d : Fin 128, (a0 (ix5 b (qblk q) (head h g) (Cert.ReferenceIdeal.Attn.qrow q) d) : EReal).toReal * (a2 (ix4 b h k d) : EReal).toReal)
    * (a1 (ix4 b (qblk q) (head h g) (Cert.ReferenceIdeal.Attn.qrow q)) : EReal).toReal
    * (a3 (ix4 b h (Cert.ReferenceIdeal.Attn.seg k) 0) : EReal).toReal * (11863283 / 134217728)

/-- Every entry the scores read is a real number. -/
structure Real : Prop where
  r0 : ∀ i, a0 i = (((a0 i : EReal).toReal : ℝ) : EReal)
  r1 : ∀ i, a1 i = (((a1 i : EReal).toReal : ℝ) : EReal)
  r2 : ∀ i, a2 i = (((a2 i : EReal).toReal : ℝ) : EReal)
  r3 : ∀ (b : Fin 12) (h : Fin 2) (s : Fin 36), a3 (ix4 b h s 0) = (((a3 (ix4 b h s 0) : EReal).toReal : ℝ) : EReal)

variable {a0 a1 a2 a3}

/-- The reference's score is `X`. -/
theorem score_real (r : Real a0 a1 a2 a3) (b : Fin 12) (h : Fin 2) (g : Fin 8) (q k : Fin 2304) :
    score a0 a1 a2 a3 b h g q k = (X a0 a1 a2 a3 b h g q k : EReal) := by
  unfold score X Cert.ReferenceIdeal.Attn.smScale
  rw [EReal.coe_mul, EReal.coe_mul, EReal.coe_mul, ← r.r3, ← r.r1, ← Cert.Attn.coe_sum]
  congr 3
  exact Finset.sum_congr rfl fun d _ => by rw [EReal.coe_mul, ← r.r0, ← r.r2]

/-- The kernel's score is `X / log 2`. -/
theorem kscore_real (r : Real a0 a1 a2 a3) (x0 : FVec Ideal Cert.KernelIdeal.S1x1x8x128x128 .bf16) (x1 : FVec Ideal Cert.KernelIdeal.S1x1x8x128 .f32)
    (x2 : FVec Ideal Cert.KernelIdeal.S1x1x2304x128 .bf16) (x3 : FVec Ideal Cert.KernelIdeal.S1x1x36x128 .f32)
    (b : Fin 12) (h : Fin 2) (g : Fin 8) (q k : Fin 2304) (n : Fin 1024)
    (e0 : ∀ d, x0 (ix5 0 0 (Cert.KernelIdeal.Attn.hd n) (Cert.KernelIdeal.Attn.qrow n) d) = a0 (ix5 b (qblk q) (head h g) (Cert.ReferenceIdeal.Attn.qrow q) d))
    (e1 : x1 (ix4 0 0 (Cert.KernelIdeal.Attn.hd n) (Cert.KernelIdeal.Attn.qrow n)) = a1 (ix4 b (qblk q) (head h g) (Cert.ReferenceIdeal.Attn.qrow q)))
    (e2 : ∀ d, x2 (ix4 0 0 k d) = a2 (ix4 b h k d))
    (e3 : x3 (ix4 0 0 (Cert.KernelIdeal.Attn.seg k) 0) = a3 (ix4 b h (Cert.ReferenceIdeal.Attn.seg k) 0)) :
    Cert.KernelIdeal.Attn.kscore x0 x1 x2 x3 n k = ((X a0 a1 a2 a3 b h g q k * (Real.log 2)⁻¹ : ℝ) : EReal) := by
  unfold Cert.KernelIdeal.Attn.kscore Cert.KernelIdeal.Attn.scale
  rw [e3, e1, r.r3, r.r1]
  have hsum : (∑ d : Fin 128, x2 (ix4 0 0 k d) * x0 (ix5 0 0 (Cert.KernelIdeal.Attn.hd n) (Cert.KernelIdeal.Attn.qrow n) d) : EReal)
      = ((∑ d : Fin 128, (a0 (ix5 b (qblk q) (head h g) (Cert.ReferenceIdeal.Attn.qrow q) d) : EReal).toReal * (a2 (ix4 b h k d) : EReal).toReal : ℝ) : EReal) := by
    rw [← Cert.Attn.coe_sum]
    exact Finset.sum_congr rfl fun d _ => by rw [EReal.coe_mul, ← r.r0, ← r.r2, e0, e2, mul_comm]
  rw [hsum, ← EReal.coe_mul, ← EReal.coe_mul, ← EReal.coe_mul]
  unfold X
  congr 1
  ring

end Cert.Score

end
-- ==== Proof.Array.lean ====
/- The array the kernel leaves: at every batch, query and lane, softmax attention over the keys not after the query. -/
module

public import proofs.«01_k».proof.Proof.Block
public import proofs.«01_k».proof.Proof.Score

@[expose] public section

set_option maxRecDepth 16384

noncomputable section

open Idealize.ShloMosaic Idealize.ShloMosaic.TcCoe Idealize.ShloMosaic.Tactic Idealize.SL.Sem

namespace Cert.KernelIdeal.Attn

open Cert.KernelIdeal Cert.KernelIdeal.Gen Cert.Attn

/-- Which block each window holds at a point, and the point's last coordinate: the points run over the batch, then the
    key head, then the block of queries. -/
theorem idx : ∀ t : Fin cfg0.N,
    win0_0.index t = ![t.val / 36, t.val % 18, t.val / 18 % 2, 0, 0] ∧ win0_1.index t = ![t.val / 36, t.val % 18, t.val / 18 % 2, 0]
      ∧ win0_2.index t = ![t.val / 36, t.val / 18 % 2, 0, 0] ∧ win0_3.index t = ![t.val / 36, t.val / 18 % 2, 0, 0]
      ∧ win0_4.index t = ![t.val / 36, t.val / 18 % 2, 0, 0] ∧ win0_5.index t = ![t.val / 36, t.val % 18, t.val / 18 % 2]
      ∧ (grid0.coords t 2).val = t.val % 18 :=
  (by decide +kernel : ∀ t : Fin grid0.N, _)

/-- The result's batch, query, key head, head in its group, and feature, from an index of the array. -/
def ib (i : S12x2304x2048.Idx) : Fin 12 := i 0
def iq (i : S12x2304x2048.Idx) : Fin 2304 := i 1
def ih (i : S12x2304x2048.Idx) : Fin 2 := ⟨(i 2).val / 1024, by have := (i 2).isLt; simp at this; omega⟩
def ig (i : S12x2304x2048.Idx) : Fin 8 := ⟨(i 2).val / 128 % 8, by omega⟩
def id (i : S12x2304x2048.Idx) : Fin 128 := ⟨(i 2).val % 128, by omega⟩

variable (m : (ℓ : Loc nD τ sig) → Buf (Elt Ideal) ℓ) (c : Dev nD)

/-- The attention of the arrays as launched, as an array of the result's shape. -/
def G (i : S12x2304x2048.Idx) : EReal :=
  attn (Cert.Score.X (m ((c.tc : Thread nD τ).loc main_arg0)) (m ((c.tc : Thread nD τ).loc main_arg1)) (m ((c.tc : Thread nD τ).loc main_arg2)) (m ((c.tc : Thread nD τ).loc main_arg3)) (ib i) (ih i) (ig i) (iq i))
    (fun k => (m ((c.tc : Thread nD τ).loc main_arg4) : FVec Ideal S12x2x128x2304 .bf16) (ix4 (ib i) (ih i) (id i) k))
    (Finset.univ.filter fun k : Fin 2304 => k.val ≤ (iq i).val)

/-- The batch, the key head and the block of queries of a point, and the query a column of the block is. -/
def pb (t : Fin cfg0.N) : Fin 12 := ⟨t.val / 36, by have := lt_of_lt_of_eq t.isLt N_0; omega⟩
def ph (t : Fin cfg0.N) : Fin 2 := ⟨t.val / 18 % 2, by omega⟩
def pq (t : Fin cfg0.N) (n : Fin 1024) : Fin 2304 := ⟨128 * (t.val % 18) + n.val % 128, by omega⟩

variable (t : Fin cfg0.N)

theorem blk0 (n : Fin 1024) (d : Fin 128) : (iblk m c 0 t : FVec Ideal S1x1x8x128x128 .bf16) (ix5 0 0 (hd n) (qrow n) d)
    = (m ((c.tc : Thread nD τ).loc main_arg0) : FVec Ideal S12x18x16x128x128 .bf16)
      (ix5 (pb t) (Cert.ReferenceIdeal.Attn.qblk (pq t n)) (Cert.ReferenceIdeal.Attn.head (ph t) (hd n)) (Cert.ReferenceIdeal.Attn.qrow (pq t n)) d) := by
  have := n.isLt
  unfold pb ph pq hd qrow Cert.ReferenceIdeal.Attn.qblk Cert.ReferenceIdeal.Attn.head Cert.ReferenceIdeal.Attn.qrow
  blk_point [iblk, V, idx t]

theorem blk1 (n : Fin 1024) : (iblk m c 1 t : FVec Ideal S1x1x8x128 .f32) (ix4 0 0 (hd n) (qrow n))
    = (m ((c.tc : Thread nD τ).loc main_arg1) : FVec Ideal S12x18x16x128 .f32)
      (ix4 (pb t) (Cert.ReferenceIdeal.Attn.qblk (pq t n)) (Cert.ReferenceIdeal.Attn.head (ph t) (hd n)) (Cert.ReferenceIdeal.Attn.qrow (pq t n))) := by
  have := n.isLt
  unfold pb ph pq hd qrow Cert.ReferenceIdeal.Attn.qblk Cert.ReferenceIdeal.Attn.head Cert.ReferenceIdeal.Attn.qrow
  blk_point [iblk, V, idx t]

theorem blk2 (k : Fin 2304) (d : Fin 128) : (iblk m c 2 t : FVec Ideal S1x1x2304x128 .bf16) (ix4 0 0 k d)
    = (m ((c.tc : Thread nD τ).loc main_arg2) : FVec Ideal S12x2x2304x128 .bf16) (ix4 (pb t) (ph t) k d) := by
  unfold pb ph
  blk_point [iblk, V, idx t]

theorem blk3 (k : Fin 36) : (iblk m c 3 t : FVec Ideal S1x1x36x128 .f32) (ix4 0 0 k 0)
    = (m ((c.tc : Thread nD τ).loc main_arg3) : FVec Ideal S12x2x36x128 .f32) (ix4 (pb t) (ph t) k 0) := by
  unfold pb ph
  blk_point [iblk, V, idx t]

theorem blk4 (d : Fin 128) (k : Fin 2304) : (iblk m c 4 t : FVec Ideal S1x1x128x2304 .bf16) (ix4 0 0 d k)
    = (m ((c.tc : Thread nD τ).loc main_arg4) : FVec Ideal S12x2x128x2304 .bf16) (ix4 (pb t) (ph t) d k) := by
  unfold pb ph
  blk_point [iblk, V, idx t]

/-- What `G` reads at an index given by its point, column and feature. -/
theorem G_at (j : S12x2304x2048.Idx) (d : Fin 128) (n : Fin 1024) (h0 : (j 0).val = t.val / 36) (h1 : (j 1).val = 128 * (t.val % 18) + n.val % 128)
    (h2 : (j 2).val = 1024 * (t.val / 18 % 2) + 128 * (n.val / 128) + d.val) :
    G m c j = attn (Cert.Score.X (m ((c.tc : Thread nD τ).loc main_arg0)) (m ((c.tc : Thread nD τ).loc main_arg1)) (m ((c.tc : Thread nD τ).loc main_arg2)) (m ((c.tc : Thread nD τ).loc main_arg3)) (pb t) (ph t) (hd n) (pq t n))
      (fun k => (m ((c.tc : Thread nD τ).loc main_arg4) : FVec Ideal S12x2x128x2304 .bf16) (ix4 (pb t) (ph t) d k)) (causal (t.val % 18) n) := by
  have hn := n.isLt
  have e0 : ib j = pb t := Fin.ext h0
  have e1 : iq j = pq t n := Fin.ext h1
  have e2 : ih j = ph t := Fin.ext (by simp only [ih, ph]; omega)
  have e3 : ig j = hd n := Fin.ext (by simp only [ig, hd]; omega)
  have e4 : id j = d := Fin.ext (by simp only [id]; omega)
  unfold G
  rw [e0, e1, e2, e3, e4]
  rfl

/-- THE KERNEL'S ARRAY, where the codes and scales are real numbers. -/
theorem final (r : Cert.Score.Real (m ((c.tc : Thread nD τ).loc main_arg0)) (m ((c.tc : Thread nD τ).loc main_arg1)) (m ((c.tc : Thread nD τ).loc main_arg2)) (m ((c.tc : Thread nD τ).loc main_arg3))) :
    (dats m 0 c).arrAt 5 cfg0.N = G m c := by
  refine (dats m 0 c).arrAt_eq_of_covers 5 _ (by decide +kernel) fun t _ y => ?_
  blk_simp
  rw [after0_5]
  obtain ⟨st, hg, ho⟩ := outs_eq m c t _ fun n k => Cert.Score.kscore_real r (iblk m c 0 t) (iblk m c 1 t) (iblk m c 2 t) (iblk m c 3 t)
    (pb t) (ph t) (hd n) (pq t n) k n (blk0 m c t n) (blk1 m c t n) (blk2 m c t k) (blk3 m c t _)
  have hy1 : (y 1).val < 128 := (y 1).isLt
  have hy2 : (y 2).val < 1024 := (y 2).isLt
  obtain ⟨i0, i1, i2, i3, i4, i5, i6⟩ := idx t
  rw [ho y ⟨(y 2).val % 128, by omega⟩ ⟨(y 2).val / 128 * 128 + (y 1).val, by omega⟩ rfl rfl]
  rw [Good.out hg _ (fun n k => by rw [mul_assoc, inv_mul_cancel₀ (Real.log_pos one_lt_two).ne', mul_one])]
  rw [G_at m c t _ ⟨(y 2).val % 128, by omega⟩ ⟨(y 2).val / 128 * 128 + (y 1).val, by omega⟩
    (by blk_simp [i5] <;> try (dsimp only; omega)) (by blk_simp [i5] <;> try (dsimp only; omega)) (by blk_simp [i5] <;> try (dsimp only; omega)), i6]
  congr 1
  exact funext fun k => blk4 m c t _ k

end Cert.KernelIdeal.Attn

end
-- ==== Proof.Finite.lean ====
/- What the precondition says: the codes, the query scales and lane 0 of the key scales are real numbers. -/
module

public import proofs.«01_k».proof.Pre_finite
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.Pre_finite.Gen

open Cert.Pre_finite

theorem bcast_0 : S_.BroadcastsInDim S12x18x16x128x128 (![] : Fin 0 → Fin S12x18x16x128x128.rank) := by decide
theorem bcast_1 : S_.BroadcastsInDim S12x18x16x128 (![] : Fin 0 → Fin S12x18x16x128.rank) := by decide
theorem bcast_2 : S_.BroadcastsInDim S12x2x2304x128 (![] : Fin 0 → Fin S12x2x2304x128.rank) := by decide
theorem slices_3 : S12x2x36x128.Slices ![0, 0, 0, 0] S12x2x36x1 := by decide
theorem bcast_3 : S_.BroadcastsInDim S12x2x36x1 (![] : Fin 0 → Fin S12x2x36x1.rank) := by decide

/-- The shape relations the precondition's operations take. -/
instance facts : Cert.Pre_finite.Facts where
  bcast_S_S12x18x16x128x128 := bcast_0
  bcast_S_S12x18x16x128 := bcast_1
  bcast_S_S12x2x2304x128 := bcast_2
  slices_S12x2x36x128_S12x2x36x1_0_0_0_0 := slices_3
  bcast_S_S12x2x36x1 := bcast_3

/-- An extended real whose absolute value is below the printed infinity is a real number. -/
theorem real_of_lt (x : EReal) (top : EReal) (ht : top = ⊤) (h : FloatOps.cmpf (F := Ideal) (φ := .f32) .olt (max x (-x)) top = 1#1) : x = ((x.toReal : ℝ) : EReal) := by
  subst ht
  have hb : max x (-x) < ⊤ := by
    by_contra hn
    have : FloatOps.cmpf (F := Ideal) (φ := .f32) .olt (max x (-x)) (⊤ : EReal) = 0#1 := by
      show BitVec.ofBool (decide (max x (-x) < (⊤ : EReal))) = 0#1
      rw [decide_eq_false hn]; rfl
    rw [this] at h
    exact absurd h (by decide)
  have h1 : x ≠ ⊤ := fun e => by rw [e] at hb; simp at hb
  have h2 : x ≠ ⊥ := fun e => by rw [e] at hb; simp at hb
  exact (EReal.coe_toReal h1 h2).symm

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

section

variable (a0 : FVec Ideal S12x18x16x128x128 .bf16) (a1 : FVec Ideal S12x18x16x128 .f32) (a2 : FVec Ideal S12x2x2304x128 .bf16)
  (a3 : FVec Ideal S12x2x36x128 .f32) (a4 : FVec Ideal S12x2x128x2304 .bf16)

theorem real_0 (h : (fn (F := Ideal) a0 a1 a2 a3 a4).1 = fun _ => 1#1) (i : S12x18x16x128x128.Idx) : a0 i = (((a0 i).toReal : ℝ) : EReal) :=
  real_of_lt (a0 i) _ inf_bf16 (congrFun h i)

theorem real_1 (h : (fn (F := Ideal) a0 a1 a2 a3 a4).2.1 = fun _ => 1#1) (i : S12x18x16x128.Idx) : a1 i = (((a1 i).toReal : ℝ) : EReal) :=
  real_of_lt (a1 i) _ inf_f32 (congrFun h i)

theorem real_2 (h : (fn (F := Ideal) a0 a1 a2 a3 a4).2.2.1 = fun _ => 1#1) (i : S12x2x2304x128.Idx) : a2 i = (((a2 i).toReal : ℝ) : EReal) :=
  real_of_lt (a2 i) _ inf_bf16 (congrFun h i)

theorem real_3 (h : (fn (F := Ideal) a0 a1 a2 a3 a4).2.2.2 = fun _ => 1#1) (b : Fin 12) (k : Fin 2) (s : Fin 36) :
    a3 (ix4 b k s 0) = (((a3 (ix4 b k s 0)).toReal : ℝ) : EReal) := by
  have e : extractStridedSlice S12x2x36x1 ![0, 0, 0, 0] a3 Facts.slices_S12x2x36x128_S12x2x36x1_0_0_0_0 (ix4 b k s 0) = a3 (ix4 b k s 0) := by
    pointwise
  have h' := congrFun h (ix4 b k s 0)
  refine real_of_lt _ _ inf_f32 ?_
  rw [← e]
  exact h'

end

end Cert.Pre_finite.Gen

end
-- ==== Proof.QBlock.lean ====
/- What one grid point of the query quantiser writes: the scale of each head, and the codes of the rotated queries. -/
module

public import proofs.«01_k».proof.Proof.Gen.QuantiseIdeal.Frame
public import proofs.«01_k».proof.Proof.Gen.QuantiseIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.ShloMosaic.Tactic Idealize.SL.Sem

namespace Cert.QuantiseIdeal.Quant

open Cert.QuantiseIdeal Cert.QuantiseIdeal.Gen

section

variable (x0 : FVec Ideal S1x128x16x128 .bf16) (x1 x2 : FVec Ideal S1x128x128 .f32)

/-- The rotated queries of the block: at head `h`, row `r` and lane `l`. -/
def rot (h : Fin 16) (r l : Fin 128) : EReal :=
  x0 (ix4 0 r h l) * x1 (ix3 0 r l) + x0 (ix4 0 r h ⟨(l.val + 128 - 64) % 128, Nat.mod_lt _ (by norm_num)⟩) * x2 (ix3 0 r l)

/-- The rows of the two heads from head `w`, as one word's halves are loaded. -/
abbrev two (w : Nat) (inb : ∀ a : Fin S1x128x16x128.rank, (![0, 0, w, 0] : Fin 4 → ℕ) a + (![1, 128, 2, 128] : Fin 4 → ℕ) a ≤ S1x128x16x128.size a) : Vec Ideal S1x128x2x128 .bf16 :=
  View.ld (Val := Elt Ideal) (e' := .bf16) (S := S1x128x16x128) x0 (Rect.unit ![0, 0, w, 0] ![1, 128, 2, 128] inb)

/-- The heads' scales, as the body computes them. -/
def scales : FVec Ideal S16x128 .f32 :=
  k0_pay65 (k0_pay3 x1) (k0_pay4 x2)
      (k0_pay7 x1 x2 (two x0 0 inb_S1x128x16x128_S1x128x2x128_0_0_0_0))
      (k0_pay10 x1 x2 (two x0 0 inb_S1x128x16x128_S1x128x2x128_0_0_0_0))
      (k0_pay13 (k0_pay3 x1) (k0_pay4 x2) (two x0 2 inb_S1x128x16x128_S1x128x2x128_0_0_2_0))
      (k0_pay16 (k0_pay3 x1) (k0_pay4 x2) (two x0 2 inb_S1x128x16x128_S1x128x2x128_0_0_2_0))
      (k0_pay23 (k0_pay3 x1) (k0_pay4 x2)
        (k0_pay17 (two x0 4 inb_S1x128x16x128_S1x128x2x128_0_0_4_0))
        (k0_pay19 (two x0 4 inb_S1x128x16x128_S1x128x2x128_0_0_4_0)) 64#32)
      (k0_pay26 (k0_pay3 x1) (k0_pay4 x2)
        (k0_pay18 (two x0 4 inb_S1x128x16x128_S1x128x2x128_0_0_4_0))
        (k0_pay20 (two x0 4 inb_S1x128x16x128_S1x128x2x128_0_0_4_0)) 64#32)
      (k0_pay32 (k0_pay30 (k0_pay3 x1) (k0_pay4 x2) (two x0 6 inb_S1x128x16x128_S1x128x2x128_0_0_6_0)))
      (k0_pay35 (k0_pay3 x1) (k0_pay4 x2)
        (k0_pay28 (two x0 6 inb_S1x128x16x128_S1x128x2x128_0_0_6_0))
        (k0_pay29 (two x0 6 inb_S1x128x16x128_S1x128x2x128_0_0_6_0)))
      (k0_pay39 (k0_pay3 x1) (k0_pay4 x2) (two x0 8 inb_S1x128x16x128_S1x128x2x128_0_0_8_0))
      (k0_pay44
        (k0_pay40 (k0_pay3 x1) (two x0 8 inb_S1x128x16x128_S1x128x2x128_0_0_8_0))
        (k0_pay41 (k0_pay4 x2) (two x0 8 inb_S1x128x16x128_S1x128x2x128_0_0_8_0)))
      (k0_pay47 (k0_pay3 x1) (k0_pay4 x2) (two x0 10 inb_S1x128x16x128_S1x128x2x128_0_0_10_0))
      (k0_pay50 (k0_pay3 x1) (k0_pay4 x2) (two x0 10 inb_S1x128x16x128_S1x128x2x128_0_0_10_0))
      (k0_pay53 (k0_pay3 x1) (k0_pay4 x2) (two x0 12 inb_S1x128x16x128_S1x128x2x128_0_0_12_0))
      (k0_pay56 (k0_pay3 x1) (k0_pay4 x2) (two x0 12 inb_S1x128x16x128_S1x128x2x128_0_0_12_0))
      (k0_pay57 (two x0 14 inb_S1x128x16x128_S1x128x2x128_0_0_14_0))
      (k0_pay58 (two x0 14 inb_S1x128x16x128_S1x128x2x128_0_0_14_0))
      (k0_pay59 (two x0 14 inb_S1x128x16x128_S1x128x2x128_0_0_14_0))
      (k0_pay60 (two x0 14 inb_S1x128x16x128_S1x128x2x128_0_0_14_0))
      (64#32)

/-- Minus infinity, where the maxima start. -/
abbrev lo : EReal := Ideal.ofBits FTy.f32 4286578688#32

/-- A head's scale from its largest absolute value: 1 where that is zero, else the 127th part of it. -/
def scaleOf (a : EReal) : EReal := if a = 0 then 1 else Ideal.div a (Ideal.ofBits FTy.f32 1123942400#32)

/-- The largest absolute value of a head's rotated queries: first over the rows, then over the lanes. -/
def amax (h : Fin 16) : EReal :=
  Finset.univ.fold max lo fun l : Fin 128 => Finset.univ.fold max lo fun r : Fin 128 => FloatOps.absf (F := Ideal) (φ := .f32) (rot x0 x1 x2 h r l)

/-- A code: the quotient by the scale, clipped to [-127, 127] and rounded to the nearest integer, ties to even. -/
def code (x s : EReal) : EReal :=
  Ideal.liftRound Ideal.roundHalfEven (min (((127#32).toInt : ℝ) : EReal) (max (((4294967169#32).toInt : ℝ) : EReal) (Ideal.div x s)))

/-- The code of the block's rotated query at head `h`, row `r` and lane `l`. -/
def codeAt (h : Fin 16) (r l : Fin 128) : EReal := code (rot x0 x1 x2 h r l) (scaleOf (amax x0 x1 x2 h))

/-- Every head's scale, as the body computes it. -/
theorem scales_eq (h : Fin 16) (l : Fin 128) : scales x0 x1 x2 (ix2 h l) = scaleOf (amax x0 x1 x2 h) := by
  unfold scales
  unfold k0_pay65
  generalize hR : concatenate S16x128 0 _ _ = rows
  have hrows : ∀ i : S16x128.Idx, rows i = Finset.univ.fold max lo fun r : Fin 128 => FloatOps.absf (F := Ideal) (φ := .f32) (rot x0 x1 x2 (i 0) r (i 1)) := by
    intro i
    rw [← hR]
    clear hR
    concat_tiles i hk
    all_goals
      rename_i j
      have e1 : j 1 = i 1 := Fin.ext hk1.symm
      rw [show j 0 = (⟨_, lt_of_eq_of_lt hk.symm (j 0).isLt⟩ : Fin 16) from Fin.ext hk, e1]
      unfold rot
      pointwise [two, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  clear hR
  pointwise [hrows]
  rfl
end

section

variable (m : (ℓ : Loc nD τ sig) → Buf (Elt Ideal) ℓ) (c : Dev nD) (t : Fin cfg0.N)

/-- What a grid point writes of the scales. -/
theorem out4 (x : S1x1x16x128.Idx) :
    ((outsAt0 m c t).2.1 : FVec Ideal S1x1x16x128 .f32) x = scaleOf (amax (iblk m c 0 t) (iblk m c 1 t) (iblk m c 2 t) (x 2)) := by
  unfold outsAt0
  frame_out
  generalize iblk m c 0 t = x0, iblk m c 1 t = x1, iblk m c 2 t = x2
  unfold k0_pay66
  generalize hS : k0_pay65 (F := Ideal) _ _ _ _ _ _ _ _ _ _ _ _ _ _ _ _ _ _ _ _ _ = S
  have hs : ∀ (h : Fin 16) (l : Fin 128), S (ix2 h l) = scaleOf (amax x0 x1 x2 h) := fun h l => by rw [← hS]; exact scales_eq x0 x1 x2 h l
  clear hS
  pointwise [hs]

end

end Cert.QuantiseIdeal.Quant
-- ==== Proof.QCodes.lean ====
/- What one grid point of the query quantiser writes of the transposed codes. -/
module

public import proofs.«01_k».proof.Proof.QBlock

@[expose] public section

set_option maxRecDepth 16384

noncomputable section

open Idealize.ShloMosaic Idealize.ShloMosaic.TcCoe Idealize.ShloMosaic.Tactic Idealize.SL.Sem

namespace Cert.QuantiseIdeal.Quant

open Cert.QuantiseIdeal Cert.QuantiseIdeal.Gen

section

/-! ### The sixteen stored tiles

Tile `h` is head `h`'s rotated queries, read back from the scratch, over its scale, clipped and rounded. -/

variable (S : FVec Ideal S16x128 .f32) (x0 : FVec Ideal S1x128x16x128 .bf16) (x1 x2 : FVec Ideal S1x128x128 .f32) (x : S1x1x1x128x128.Idx)

theorem head0 : k0_pay68 (F := Ideal) S (k0_pay6 x1 x2 (two x0 0 inb_S1x128x16x128_S1x128x2x128_0_0_0_0)) x
    = code (rot x0 x1 x2 0 (x 3) (x 4)) (S (ix2 0 (x 4))) := by
  unfold code rot
  pointwise [two, k0_pay3, k0_pay4, k0_pay5, k0_pay6, k0_pay67, k0_pay68]

theorem head1 : k0_pay71 (F := Ideal) S (k0_pay9 x1 x2 (two x0 0 inb_S1x128x16x128_S1x128x2x128_0_0_0_0)) x
    = code (rot x0 x1 x2 1 (x 3) (x 4)) (S (ix2 1 (x 4))) := by
  unfold code rot
  pointwise [two, k0_pay3, k0_pay4, k0_pay8, k0_pay9, k0_pay70, k0_pay71]

theorem head2 : k0_pay75 (F := Ideal) S (k0_pay73 (k0_pay12 (k0_pay3 x1) (k0_pay4 x2) (two x0 2 inb_S1x128x16x128_S1x128x2x128_0_0_2_0))) x
    = code (rot x0 x1 x2 2 (x 3) (x 4)) (S (ix2 2 (x 4))) := by
  unfold code rot
  pointwise [two, k0_pay3, k0_pay4, k0_pay11, k0_pay12, k0_pay73, k0_pay74, k0_pay75]

theorem head3 : k0_pay77 (F := Ideal) S (k0_pay15 (k0_pay3 x1) (k0_pay4 x2) (two x0 2 inb_S1x128x16x128_S1x128x2x128_0_0_2_0)) x
    = code (rot x0 x1 x2 3 (x 3) (x 4)) (S (ix2 3 (x 4))) := by
  unfold code rot
  pointwise [two, k0_pay3, k0_pay4, k0_pay14, k0_pay15, k0_pay76, k0_pay77]

theorem head4 : k0_pay81 (F := Ideal) S (k0_pay22 (k0_pay3 x1) (k0_pay4 x2) (k0_pay17 (two x0 4 inb_S1x128x16x128_S1x128x2x128_0_0_4_0)) (k0_pay19 (two x0 4 inb_S1x128x16x128_S1x128x2x128_0_0_4_0)) 64#32) x
    = code (rot x0 x1 x2 4 (x 3) (x 4)) (S (ix2 4 (x 4))) := by
  unfold code rot
  pointwise [two, k0_pay3, k0_pay4, k0_pay17, k0_pay19, k0_pay21, k0_pay22, k0_pay80, k0_pay81]

theorem head5 : k0_pay84 (F := Ideal) S (k0_pay25 (k0_pay3 x1) (k0_pay4 x2) (k0_pay18 (two x0 4 inb_S1x128x16x128_S1x128x2x128_0_0_4_0)) (k0_pay20 (two x0 4 inb_S1x128x16x128_S1x128x2x128_0_0_4_0)) 64#32) x
    = code (rot x0 x1 x2 5 (x 3) (x 4)) (S (ix2 5 (x 4))) := by
  unfold code rot
  pointwise [two, k0_pay3, k0_pay4, k0_pay18, k0_pay20, k0_pay24, k0_pay25, k0_pay83, k0_pay84]

theorem head6 : k0_pay86 (F := Ideal) S (k0_pay31 (k0_pay30 (k0_pay3 x1) (k0_pay4 x2) (two x0 6 inb_S1x128x16x128_S1x128x2x128_0_0_6_0))) x
    = code (rot x0 x1 x2 6 (x 3) (x 4)) (S (ix2 6 (x 4))) := by
  unfold code rot
  pointwise [two, k0_pay3, k0_pay4, k0_pay30, k0_pay31, k0_pay85, k0_pay86]

theorem head7 : k0_pay88 (F := Ideal) S (k0_pay34 (k0_pay3 x1) (k0_pay4 x2) (k0_pay28 (two x0 6 inb_S1x128x16x128_S1x128x2x128_0_0_6_0)) (k0_pay29 (two x0 6 inb_S1x128x16x128_S1x128x2x128_0_0_6_0))) x
    = code (rot x0 x1 x2 7 (x 3) (x 4)) (S (ix2 7 (x 4))) := by
  unfold code rot
  pointwise [two, k0_pay3, k0_pay4, k0_pay27, k0_pay28, k0_pay29, k0_pay33, k0_pay34, k0_pay87, k0_pay88]

theorem head8 : k0_pay95 (F := Ideal) S (k0_pay38 (k0_pay3 x1) (k0_pay4 x2) (two x0 8 inb_S1x128x16x128_S1x128x2x128_0_0_8_0)) x
    = code (rot x0 x1 x2 8 (x 3) (x 4)) (S (ix2 8 (x 4))) := by
  unfold code rot
  pointwise [two, k0_pay3, k0_pay4, k0_pay37, k0_pay38, k0_pay94, k0_pay95]

theorem head9 : k0_pay99 (F := Ideal) (k0_pay98 S (k0_pay43 (k0_pay40 (k0_pay3 x1) (two x0 8 inb_S1x128x16x128_S1x128x2x128_0_0_8_0)) (k0_pay41 (k0_pay4 x2) (two x0 8 inb_S1x128x16x128_S1x128x2x128_0_0_8_0)))) x
    = code (rot x0 x1 x2 9 (x 3) (x 4)) (S (ix2 9 (x 4))) := by
  unfold code rot
  pointwise [two, k0_pay3, k0_pay4, k0_pay36, k0_pay40, k0_pay41, k0_pay42, k0_pay43, k0_pay97, k0_pay98, k0_pay99]

theorem head10 : k0_pay102 (F := Ideal) S (k0_pay46 (k0_pay3 x1) (k0_pay4 x2) (two x0 10 inb_S1x128x16x128_S1x128x2x128_0_0_10_0)) x
    = code (rot x0 x1 x2 10 (x 3) (x 4)) (S (ix2 10 (x 4))) := by
  unfold code rot
  pointwise [two, k0_pay3, k0_pay4, k0_pay45, k0_pay46, k0_pay101, k0_pay102]

theorem head11 : k0_pay106 (F := Ideal) (k0_pay105 S (k0_pay49 (k0_pay3 x1) (k0_pay4 x2) (two x0 10 inb_S1x128x16x128_S1x128x2x128_0_0_10_0))) x
    = code (rot x0 x1 x2 11 (x 3) (x 4)) (S (ix2 11 (x 4))) := by
  unfold code rot
  pointwise [two, k0_pay3, k0_pay4, k0_pay48, k0_pay49, k0_pay104, k0_pay105, k0_pay106]

theorem head12 : k0_pay109 (F := Ideal) S (k0_pay52 (k0_pay3 x1) (k0_pay4 x2) (two x0 12 inb_S1x128x16x128_S1x128x2x128_0_0_12_0)) x
    = code (rot x0 x1 x2 12 (x 3) (x 4)) (S (ix2 12 (x 4))) := by
  unfold code rot
  pointwise [two, k0_pay3, k0_pay4, k0_pay51, k0_pay52, k0_pay108, k0_pay109]

theorem head13 : k0_pay114 (F := Ideal) (k0_pay111 S (k0_pay55 (k0_pay3 x1) (k0_pay4 x2) (two x0 12 inb_S1x128x16x128_S1x128x2x128_0_0_12_0))) k0_pay112 x
    = code (rot x0 x1 x2 13 (x 3) (x 4)) (S (ix2 13 (x 4))) := by
  unfold code rot
  pointwise [two, k0_pay3, k0_pay4, k0_pay54, k0_pay55, k0_pay111, k0_pay112, k0_pay113, k0_pay114]

theorem head14 : k0_pay117 (F := Ideal) S (k0_pay62 (k0_pay3 x1) (k0_pay4 x2) (k0_pay57 (two x0 14 inb_S1x128x16x128_S1x128x2x128_0_0_14_0)) (k0_pay59 (two x0 14 inb_S1x128x16x128_S1x128x2x128_0_0_14_0)) 64#32) x
    = code (rot x0 x1 x2 14 (x 3) (x 4)) (S (ix2 14 (x 4))) := by
  unfold code rot
  pointwise [two, k0_pay3, k0_pay4, k0_pay57, k0_pay59, k0_pay61, k0_pay62, k0_pay116, k0_pay117]

theorem head15 : k0_pay1 (F := Ideal) (k0_pay120 S (k0_pay64 (k0_pay3 x1) (k0_pay4 x2) (k0_pay58 (two x0 14 inb_S1x128x16x128_S1x128x2x128_0_0_14_0)) (k0_pay60 (two x0 14 inb_S1x128x16x128_S1x128x2x128_0_0_14_0)) 64#32)) x
    = code (rot x0 x1 x2 15 (x 3) (x 4)) (S (ix2 15 (x 4))) := by
  unfold code rot
  pointwise [two, k0_pay1, k0_pay3, k0_pay4, k0_pay58, k0_pay60, k0_pay63, k0_pay64, k0_pay119, k0_pay120]

/-- A tile of one head lies in the block at that head. -/
theorem at_head {v : EReal} {A : Fin 16 → EReal} {x : S1x1x1x128x128.Idx} {y : S1x1x16x128x128.Idx} (h : Fin 16)
    (H : v = code (rot x0 x1 x2 h (x 3) (x 4)) (S (ix2 h (x 4)))) (hs : ∀ (h : Fin 16) (l : Fin 128), S (ix2 h l) = scaleOf (A h))
    (h2 : (y 2).val = h.val) (h3 : (y 3).val = (x 3).val) (h4 : (y 4).val = (x 4).val) :
    v = code (rot x0 x1 x2 (y 2) (y 3) (y 4)) (scaleOf (A (y 2))) := by
  rw [show y 2 = h from Fin.ext h2, show y 3 = x 3 from Fin.ext h3, show y 4 = x 4 from Fin.ext h4]
  exact H.trans (congrArg _ (hs _ _))

end

variable (m : (ℓ : Loc nD τ sig) → Buf (Elt Ideal) ℓ) (c : Dev nD) (t : Fin cfg0.N)

/-- What a grid point writes of the transposed codes. -/
theorem out5 (x : S1x1x16x128x128.Idx) :
    ((outsAt0 m c t).2.2 : FVec Ideal S1x1x16x128x128 .bf16) x = codeAt (iblk m c 0 t) (iblk m c 1 t) (iblk m c 2 t) (x 2) (x 3) (x 4) := by
  unfold outsAt0
  frame_open
  simp (disch := decide) only [↓ View.readCov_skip, ↓ View.readCov_cons_toLoadRect, ↓ View.readCov_fill]
  frame_out
  obtain ⟨x0, e0⟩ : ∃ x0 : FVec Ideal S1x128x16x128 .bf16, iblk m c 0 t = x0 := ⟨_, rfl⟩
  obtain ⟨x1, e1⟩ : ∃ x1 : FVec Ideal S1x128x128 .f32, iblk m c 1 t = x1 := ⟨_, rfl⟩
  obtain ⟨x2, e2⟩ : ∃ x2 : FVec Ideal S1x128x128 .f32, iblk m c 2 t = x2 := ⟨_, rfl⟩
  rw [e0, e1, e2]
  clear e0 e1 e2
  generalize hS : k0_pay65 (F := Ideal) _ _ _ _ _ _ _ _ _ _ _ _ _ _ _ _ _ _ _ _ _ = S
  have hs : ∀ (h : Fin 16) (l : Fin 128), S (ix2 h l) = scaleOf (amax x0 x1 x2 h) := fun h l => by rw [← hS]; exact scales_eq x0 x1 x2 h l
  clear hS
  unfold codeAt
  generalize amax x0 x1 x2 = A at hs ⊢
  canon_tiles x h
  case piece0 => exact at_head S x0 x1 x2 15 (head15 S x0 x1 x2 _) hs (by dsimp only; omega) (by omega) (by omega)
  case piece1 => exact at_head S x0 x1 x2 14 (head14 S x0 x1 x2 _) hs (by dsimp only; omega) (by omega) (by omega)
  case piece2 => exact at_head S x0 x1 x2 13 (head13 S x0 x1 x2 _) hs (by dsimp only; omega) (by omega) (by omega)
  case piece3 => exact at_head S x0 x1 x2 12 (head12 S x0 x1 x2 _) hs (by dsimp only; omega) (by omega) (by omega)
  case piece4 => exact at_head S x0 x1 x2 11 (head11 S x0 x1 x2 _) hs (by dsimp only; omega) (by omega) (by omega)
  case piece5 => exact at_head S x0 x1 x2 10 (head10 S x0 x1 x2 _) hs (by dsimp only; omega) (by omega) (by omega)
  case piece6 => exact at_head S x0 x1 x2 9 (head9 S x0 x1 x2 _) hs (by dsimp only; omega) (by omega) (by omega)
  case piece7 => exact at_head S x0 x1 x2 8 (head8 S x0 x1 x2 _) hs (by dsimp only; omega) (by omega) (by omega)
  case piece8 => exact at_head S x0 x1 x2 7 (head7 S x0 x1 x2 _) hs (by dsimp only; omega) (by omega) (by omega)
  case piece9 => exact at_head S x0 x1 x2 6 (head6 S x0 x1 x2 _) hs (by dsimp only; omega) (by omega) (by omega)
  case piece10 => exact at_head S x0 x1 x2 5 (head5 S x0 x1 x2 _) hs (by dsimp only; omega) (by omega) (by omega)
  case piece11 => exact at_head S x0 x1 x2 4 (head4 S x0 x1 x2 _) hs (by dsimp only; omega) (by omega) (by omega)
  case piece12 => exact at_head S x0 x1 x2 3 (head3 S x0 x1 x2 _) hs (by dsimp only; omega) (by omega) (by omega)
  case piece13 => exact at_head S x0 x1 x2 2 (head2 S x0 x1 x2 _) hs (by dsimp only; omega) (by omega) (by omega)
  case piece14 => exact at_head S x0 x1 x2 1 (head1 S x0 x1 x2 _) hs (by dsimp only; omega) (by omega) (by omega)
  case piece15 => exact at_head S x0 x1 x2 0 (head0 S x0 x1 x2 _) hs (by dsimp only; omega) (by omega) (by omega)

end Cert.QuantiseIdeal.Quant
-- ==== Proof.QWords.lean ====
/- What one grid point of the query quantiser writes of the codes: the sixteen heads four at a time. -/
module

public import proofs.«01_k».proof.Proof.QBlock

@[expose] public section

set_option maxRecDepth 16384

noncomputable section

open Idealize.ShloMosaic Idealize.ShloMosaic.TcCoe Idealize.ShloMosaic.Tactic Idealize.SL.Sem

namespace Cert.QuantiseIdeal.Quant

open Cert.QuantiseIdeal Cert.QuantiseIdeal.Gen

section

variable (S : FVec Ideal S16x128 .f32) (x0 : FVec Ideal S1x128x16x128 .bf16) (x1 x2 : FVec Ideal S1x128x128 .f32)

/-- The code's word: the code as a 32-bit integer, then its low byte. -/
def word (x s : EReal) : BitVec 8 := BitVec.setWidth 8 (FloatOps.fptosi (F := Ideal) (φ := .f32) 32 (code x s))

theorem quad0 (r l : Fin 128) (j : Fin 4) :
    k0_pay79 (k0_pay78 S (k0_pay69 S (k0_pay6 x1 x2 (two x0 0 inb_S1x128x16x128_S1x128x2x128_0_0_0_0))) (k0_pay72 S (k0_pay9 x1 x2 (two x0 0 inb_S1x128x16x128_S1x128x2x128_0_0_0_0))) (k0_pay73 (k0_pay12 (k0_pay3 x1) (k0_pay4 x2) (two x0 2 inb_S1x128x16x128_S1x128x2x128_0_0_2_0))) (k0_pay15 (k0_pay3 x1) (k0_pay4 x2) (two x0 2 inb_S1x128x16x128_S1x128x2x128_0_0_2_0))) (ix4 0 r j l)
    = word (rot x0 x1 x2 ⟨0 + j.val, by omega⟩ r l) (S (ix2 ⟨0 + j.val, by omega⟩ l)) := by
  unfold word code rot
  fin_cases j <;> pointwise [two, k0_pay3, k0_pay4, k0_pay5, k0_pay6, k0_pay8, k0_pay9, k0_pay11, k0_pay12, k0_pay14, k0_pay15, k0_pay67, k0_pay69, k0_pay70, k0_pay72, k0_pay73, k0_pay74, k0_pay76, k0_pay78, k0_pay79]

theorem quad4 (r l : Fin 128) (j : Fin 4) :
    k0_pay93 (k0_pay89 S (k0_pay34 (k0_pay3 x1) (k0_pay4 x2) (k0_pay28 (two x0 6 inb_S1x128x16x128_S1x128x2x128_0_0_6_0)) (k0_pay29 (two x0 6 inb_S1x128x16x128_S1x128x2x128_0_0_6_0)))) (k0_pay90 (k0_pay82 S (k0_pay22 (k0_pay3 x1) (k0_pay4 x2) (k0_pay17 (two x0 4 inb_S1x128x16x128_S1x128x2x128_0_0_4_0)) (k0_pay19 (two x0 4 inb_S1x128x16x128_S1x128x2x128_0_0_4_0)) 64#32))) (k0_pay91 (k0_pay83 S (k0_pay25 (k0_pay3 x1) (k0_pay4 x2) (k0_pay18 (two x0 4 inb_S1x128x16x128_S1x128x2x128_0_0_4_0)) (k0_pay20 (two x0 4 inb_S1x128x16x128_S1x128x2x128_0_0_4_0)) 64#32))) (k0_pay92 S (k0_pay31 (k0_pay30 (k0_pay3 x1) (k0_pay4 x2) (two x0 6 inb_S1x128x16x128_S1x128x2x128_0_0_6_0)))) (ix4 0 r j l)
    = word (rot x0 x1 x2 ⟨4 + j.val, by omega⟩ r l) (S (ix2 ⟨4 + j.val, by omega⟩ l)) := by
  unfold word code rot
  fin_cases j <;> pointwise [two, k0_pay3, k0_pay4, k0_pay17, k0_pay18, k0_pay19, k0_pay20, k0_pay21, k0_pay22, k0_pay24, k0_pay25, k0_pay27, k0_pay28, k0_pay29, k0_pay30, k0_pay31, k0_pay33, k0_pay34, k0_pay80, k0_pay82, k0_pay83, k0_pay85, k0_pay87, k0_pay89, k0_pay90, k0_pay91, k0_pay92, k0_pay93]

theorem quad8 (r l : Fin 128) (j : Fin 4) :
    k0_pay107 (F := Ideal) (k0_pay96 S (k0_pay38 (k0_pay3 x1) (k0_pay4 x2) (two x0 8 inb_S1x128x16x128_S1x128x2x128_0_0_8_0))) (k0_pay100 (k0_pay97 S (k0_pay43 (k0_pay40 (k0_pay3 x1) (two x0 8 inb_S1x128x16x128_S1x128x2x128_0_0_8_0)) (k0_pay41 (k0_pay4 x2) (two x0 8 inb_S1x128x16x128_S1x128x2x128_0_0_8_0))))) (k0_pay103 S (k0_pay46 (k0_pay3 x1) (k0_pay4 x2) (two x0 10 inb_S1x128x16x128_S1x128x2x128_0_0_10_0))) (k0_pay104 S (k0_pay49 (k0_pay3 x1) (k0_pay4 x2) (two x0 10 inb_S1x128x16x128_S1x128x2x128_0_0_10_0))) (ix4 0 r j l)
    = word (rot x0 x1 x2 ⟨8 + j.val, by omega⟩ r l) (S (ix2 ⟨8 + j.val, by omega⟩ l)) := by
  unfold word code rot
  fin_cases j <;> pointwise [two, k0_pay3, k0_pay4, k0_pay36, k0_pay37, k0_pay38, k0_pay40, k0_pay41, k0_pay42, k0_pay43, k0_pay45, k0_pay46, k0_pay48, k0_pay49, k0_pay94, k0_pay96, k0_pay97, k0_pay100, k0_pay101, k0_pay103, k0_pay104, k0_pay107]

theorem quad12 (r l : Fin 128) (j : Fin 4) :
    k0_pay2 (F := Ideal) (k0_pay110 S (k0_pay52 (k0_pay3 x1) (k0_pay4 x2) (two x0 12 inb_S1x128x16x128_S1x128x2x128_0_0_12_0))) (k0_pay115 (k0_pay111 S (k0_pay55 (k0_pay3 x1) (k0_pay4 x2) (two x0 12 inb_S1x128x16x128_S1x128x2x128_0_0_12_0))) k0_pay112) (k0_pay118 S (k0_pay62 (k0_pay3 x1) (k0_pay4 x2) (k0_pay57 (two x0 14 inb_S1x128x16x128_S1x128x2x128_0_0_14_0)) (k0_pay59 (two x0 14 inb_S1x128x16x128_S1x128x2x128_0_0_14_0)) 64#32)) (k0_pay119 S (k0_pay64 (k0_pay3 x1) (k0_pay4 x2) (k0_pay58 (two x0 14 inb_S1x128x16x128_S1x128x2x128_0_0_14_0)) (k0_pay60 (two x0 14 inb_S1x128x16x128_S1x128x2x128_0_0_14_0)) 64#32)) (ix4 0 r j l)
    = word (rot x0 x1 x2 ⟨12 + j.val, by omega⟩ r l) (S (ix2 ⟨12 + j.val, by omega⟩ l)) := by
  unfold word code rot
  fin_cases j <;> pointwise [two, k0_pay2, k0_pay3, k0_pay4, k0_pay51, k0_pay52, k0_pay54, k0_pay55, k0_pay57, k0_pay58, k0_pay59, k0_pay60, k0_pay61, k0_pay62, k0_pay63, k0_pay64, k0_pay108, k0_pay110, k0_pay111, k0_pay112, k0_pay113, k0_pay115, k0_pay116, k0_pay118, k0_pay119]

/-- A tile of four heads lies in the block at those heads. -/
theorem at_quad {f : S1x128x4x128.Idx → BitVec 8} {A : Fin 16 → EReal} {x : S1x128x4x128.Idx} {y : S1x128x16x128.Idx} (q : Nat) (hq : q < 13)
    (H : ∀ (r l : Fin 128) (j : Fin 4), f (ix4 0 r j l) = word (rot x0 x1 x2 ⟨q + j.val, by omega⟩ r l) (S (ix2 ⟨q + j.val, by omega⟩ l)))
    (hs : ∀ (h : Fin 16) (l : Fin 128), S (ix2 h l) = scaleOf (A h))
    (h1 : (y 1).val = (x 1).val) (h2 : (y 2).val = q + (x 2).val) (h3 : (y 3).val = (x 3).val) :
    f x = word (rot x0 x1 x2 (y 2) (y 1) (y 3)) (scaleOf (A (y 2))) := by
  have hx : x = ix4 0 (x 1) (x 2) (x 3) := by
    blk_ext
  have h := H (x 1) (x 3) (x 2)
  rw [show y 2 = (⟨q + (x 2).val, by have : (x 2).val < 4 := (x 2).isLt; omega⟩ : Fin 16) from Fin.ext h2, show y 1 = x 1 from Fin.ext h1, show y 3 = x 3 from Fin.ext h3]
  exact (congrArg f hx).trans (h.trans (congrArg _ (hs _ _)))

end

variable (m : (ℓ : Loc nD τ sig) → Buf (Elt Ideal) ℓ) (c : Dev nD) (t : Fin cfg0.N)

/-- What a grid point writes of the codes. -/
theorem out3 (x : S1x128x16x128.Idx) :
    ((outsAt0 m c t).1 : IVec S1x128x16x128 8) x
      = word (rot (iblk m c 0 t) (iblk m c 1 t) (iblk m c 2 t) (x 2) (x 1) (x 3)) (scaleOf (amax (iblk m c 0 t) (iblk m c 1 t) (iblk m c 2 t) (x 2))) := by
  unfold outsAt0
  frame_open
  simp (disch := decide) only [↓ View.readCov_skip, ↓ View.readCov_cons_toLoadRect, ↓ View.readCov_fill]
  frame_out
  obtain ⟨x0, e0⟩ : ∃ x0 : FVec Ideal S1x128x16x128 .bf16, iblk m c 0 t = x0 := ⟨_, rfl⟩
  obtain ⟨x1, e1⟩ : ∃ x1 : FVec Ideal S1x128x128 .f32, iblk m c 1 t = x1 := ⟨_, rfl⟩
  obtain ⟨x2, e2⟩ : ∃ x2 : FVec Ideal S1x128x128 .f32, iblk m c 2 t = x2 := ⟨_, rfl⟩
  rw [e0, e1, e2]
  clear e0 e1 e2
  generalize hS : k0_pay65 (F := Ideal) _ _ _ _ _ _ _ _ _ _ _ _ _ _ _ _ _ _ _ _ _ = S
  have hs : ∀ (h : Fin 16) (l : Fin 128), S (ix2 h l) = scaleOf (amax x0 x1 x2 h) := fun h l => by rw [← hS]; exact scales_eq x0 x1 x2 h l
  clear hS
  generalize amax x0 x1 x2 = A at hs ⊢
  canon_tiles x h
  case piece0 => exact at_quad S x0 x1 x2 12 (by norm_num) (quad12 S x0 x1 x2) hs (by omega) (by omega) (by omega)
  case piece1 => exact at_quad S x0 x1 x2 8 (by norm_num) (quad8 S x0 x1 x2) hs (by omega) (by omega) (by omega)
  case piece2 => exact at_quad S x0 x1 x2 4 (by norm_num) (quad4 S x0 x1 x2) hs (by omega) (by omega) (by omega)
  case piece3 => exact at_quad S x0 x1 x2 0 (by norm_num) (quad0 S x0 x1 x2) hs (by omega) (by omega) (by omega)

end Cert.QuantiseIdeal.Quant
-- ==== Proof.QArray.lean ====
/- The three arrays that the query quantiser leaves, as functions of the arrays it is launched on. -/
module

public import proofs.«01_k».proof.Proof.QCodes
public import proofs.«01_k».proof.Proof.QWords

@[expose] public section

set_option maxRecDepth 16384

noncomputable section

open Idealize.ShloMosaic Idealize.ShloMosaic.TcCoe Idealize.ShloMosaic.Tactic Idealize.SL.Sem

namespace Cert.QuantiseIdeal.Quant

open Cert.QuantiseIdeal Cert.QuantiseIdeal.Gen

section

variable (q : FVec Ideal S12x2304x16x128 .bf16) (cs sn : FVec Ideal S12x2304x128 .f32)

/-- The rotated query: at batch `b`, position `n`, head `h` and lane `l`. -/
def turned (b : Fin 12) (n : Fin 2304) (h : Fin 16) (l : Fin 128) : EReal :=
  q (ix4 b n h l) * cs (ix3 b n l) + q (ix4 b n h ⟨(l.val + 64) % 128, Nat.mod_lt _ (by norm_num)⟩) * sn (ix3 b n l)

/-- The position of row `r` of block `g`. -/
def pos (g : Fin 18) (r : Fin 128) : Fin 2304 := ⟨128 * g.val + r.val, by omega⟩

/-- The largest absolute value among a head's 128 rows and 128 lanes of one block of positions. -/
def largest (b : Fin 12) (g : Fin 18) (h : Fin 16) : EReal :=
  Finset.univ.fold max lo fun l : Fin 128 => Finset.univ.fold max lo fun r : Fin 128 =>
    FloatOps.absf (F := Ideal) (φ := .f32) (turned q cs sn b (pos g r) h l)

/-- The block of a position. -/
def blockOf (n : Fin 2304) : Fin 18 := ⟨n.val / 128, by omega⟩

end

/-- Which block each window holds at a point: the points run over the batch, then over the blocks of positions. -/
theorem idx : ∀ t : Fin cfg0.N,
    win0_0.index t = ![t.val / 18, t.val % 18, 0, 0] ∧ win0_1.index t = ![t.val / 18, t.val % 18, 0] ∧ win0_2.index t = ![t.val / 18, t.val % 18, 0]
      ∧ win0_3.index t = ![t.val / 18, t.val % 18, 0, 0] ∧ win0_4.index t = ![t.val / 18, t.val % 18, 0, 0]
      ∧ win0_5.index t = ![t.val / 18, t.val % 18, 0, 0, 0] :=
  (by decide +kernel : ∀ t : Fin grid0.N, _)

variable (m : (ℓ : Loc nD τ sig) → Buf (Elt Ideal) ℓ) (c : Dev nD) (t : Fin cfg0.N)

/-- The arrays as launched. -/
abbrev aq : FVec Ideal S12x2304x16x128 .bf16 := m ((c.tc : Thread nD τ).loc main_arg0)
abbrev ac : FVec Ideal S12x2304x128 .f32 := m ((c.tc : Thread nD τ).loc main_arg1)
abbrev asn : FVec Ideal S12x2304x128 .f32 := m ((c.tc : Thread nD τ).loc main_arg2)

/-- The batch and the block of positions of a point. -/
def pb (t : Fin cfg0.N) : Fin 12 := ⟨t.val / 18, by have := lt_of_lt_of_eq t.isLt N_0; omega⟩
def pg (t : Fin cfg0.N) : Fin 18 := ⟨t.val % 18, by omega⟩

theorem blk0 (r : Fin 128) (h : Fin 16) (l : Fin 128) : (iblk m c 0 t : FVec Ideal S1x128x16x128 .bf16) (ix4 0 r h l) = aq m c (ix4 (pb t) (pos (pg t) r) h l) := by
  unfold pb pg pos
  blk_point [iblk, V, idx t]

theorem blk1 (r l : Fin 128) : (iblk m c 1 t : FVec Ideal S1x128x128 .f32) (ix3 0 r l) = ac m c (ix3 (pb t) (pos (pg t) r) l) := by
  unfold pb pg pos
  blk_point [iblk, V, idx t]

theorem blk2 (r l : Fin 128) : (iblk m c 2 t : FVec Ideal S1x128x128 .f32) (ix3 0 r l) = asn m c (ix3 (pb t) (pos (pg t) r) l) := by
  unfold pb pg pos
  blk_point [iblk, V, idx t]

/-- The block's rotated queries are the array's. -/
theorem rot_eq (h : Fin 16) (r l : Fin 128) :
    rot (iblk m c 0 t) (iblk m c 1 t) (iblk m c 2 t) h r l = turned (aq m c) (ac m c) (asn m c) (pb t) (pos (pg t) r) h l := by
  unfold rot turned
  rw [blk0, blk0, blk1, blk2]
  rw [show (⟨(l.val + 128 - 64) % 128, Nat.mod_lt _ (by norm_num)⟩ : Fin 128) = ⟨(l.val + 64) % 128, Nat.mod_lt _ (by norm_num)⟩ from
    Fin.ext (by dsimp only; omega)]

/-- So are their largest absolute values. -/
theorem amax_eq (h : Fin 16) :
    amax (iblk m c 0 t) (iblk m c 1 t) (iblk m c 2 t) h = largest (aq m c) (ac m c) (asn m c) (pb t) (pg t) h := by
  unfold amax largest
  simp only [rot_eq]

/-- THE SCALES the quantiser leaves. -/
theorem final4 : (dats m 0 c).arrAt 4 cfg0.N
    = fun i : S12x18x16x128.Idx => scaleOf (largest (aq m c) (ac m c) (asn m c) (i 0) (i 1) (i 2)) := by
  refine (dats m 0 c).arrAt_eq_of_covers 4 _ (by decide +kernel) fun t _ y => ?_
  blk_simp
  rw [after0_4]
  refine (out4 m c t y).trans ?_
  obtain ⟨i0, i1, i2, i3, i4, i5⟩ := idx t
  refine congrArg scaleOf ((amax_eq m c t _).trans ?_)
  congr 1 <;> refine Fin.ext ?_ <;> blk_simp [i4, pb, pg] <;> try omega

/-- THE CODES as numbers, each head's rows together. -/
theorem final5 : (dats m 0 c).arrAt 5 cfg0.N
    = fun i : S12x18x16x128x128.Idx => code (turned (aq m c) (ac m c) (asn m c) (i 0) (pos (i 1) (i 3)) (i 2) (i 4))
        (scaleOf (largest (aq m c) (ac m c) (asn m c) (i 0) (i 1) (i 2))) := by
  refine (dats m 0 c).arrAt_eq_of_covers 5 _ (by decide +kernel) fun t _ y => ?_
  blk_simp
  rw [after0_5]
  refine (out5 m c t y).trans ?_
  obtain ⟨i0, i1, i2, i3, i4, i5⟩ := idx t
  unfold codeAt
  refine congrArg₂ code ((rot_eq m c t _ _ _).trans ?_) (congrArg scaleOf ((amax_eq m c t _).trans ?_))
  · congr 1 <;> refine Fin.ext ?_ <;> blk_simp [i5, pb, pg, pos] <;> try omega
  · congr 1 <;> refine Fin.ext ?_ <;> blk_simp [i5, pb, pg] <;> try omega

/-- THE CODES as bytes. -/
theorem final3 : (dats m 0 c).arrAt 3 cfg0.N
    = fun i : S12x2304x16x128.Idx => word (turned (aq m c) (ac m c) (asn m c) (i 0) (i 1) (i 2) (i 3))
        (scaleOf (largest (aq m c) (ac m c) (asn m c) (i 0) (blockOf (i 1)) (i 2))) := by
  refine (dats m 0 c).arrAt_eq_of_covers 3 _ (by decide +kernel) fun t _ y => ?_
  blk_simp
  rw [after0_3]
  refine (out3 m c t y).trans ?_
  have hy : (y 1).val < 128 := (y 1).isLt
  obtain ⟨i0, i1, i2, i3, i4, i5⟩ := idx t
  refine congrArg₂ word ((rot_eq m c t _ _ _).trans ?_) (congrArg scaleOf ((amax_eq m c t _).trans ?_))
  · congr 1 <;> refine Fin.ext ?_ <;> blk_simp [i3, pb, pg, pos] <;> try (dsimp only; omega)
  · congr 1 <;> refine Fin.ext ?_ <;> blk_simp [i3, pb, pg, blockOf] <;> try (dsimp only; omega)

end Cert.QuantiseIdeal.Quant

end
-- ==== Proof.QRound.lean ====
/- Rounding to the nearest whole number and clipping to ±127 commute, and the byte that the quantiser keeps of a code is the
   code as an 8-bit integer. -/
module

public import proofs.«01_k».proof.Proof.QWords

@[expose] public section

noncomputable section

open Idealize.ShloMosaic Idealize.ShloMosaic.TcCoe

namespace Cert.QuantiseIdeal.Quant

theorem round_le (r : ℝ) (n : ℤ) (h : r ≤ n) : Ideal.roundHalfEven r ≤ n := by
  have hf : ⌊r⌋ ≤ n := Int.floor_le_iff.mpr (lt_of_le_of_lt h (lt_add_one _))
  unfold Ideal.roundHalfEven
  rcases hf.lt_or_eq with hlt | heq
  · dsimp only
    split_ifs <;> omega
  · have h0 : r - (⌊r⌋ : ℝ) < 1 / 2 := by
      rw [heq]
      linarith
    simp only [h0, if_true]
    exact hf

theorem le_round (r : ℝ) (n : ℤ) (h : (n : ℝ) ≤ r) : n ≤ Ideal.roundHalfEven r := by
  have hf : n ≤ ⌊r⌋ := Int.le_floor.mpr h
  unfold Ideal.roundHalfEven
  dsimp only
  split_ifs <;> omega

theorem round_int (n : ℤ) : Ideal.roundHalfEven n = n := le_antisymm (round_le _ n le_rfl) (le_round _ n le_rfl)

theorem hi_eq : (((127#32).toInt : ℝ) : EReal) = ((127 : ℝ) : EReal) := by
  rw [show (127#32).toInt = 127 by decide]
  norm_num

theorem lo_eq : (((4294967169#32).toInt : ℝ) : EReal) = ((-127 : ℝ) : EReal) := by
  rw [show (4294967169#32).toInt = -127 by decide]
  norm_num

/-- Rounded and then clipped, as the reference writes a code. -/
def clipped (z : EReal) : EReal := min ((127 : ℝ) : EReal) (max ((-127 : ℝ) : EReal) (Ideal.liftRound Ideal.roundHalfEven z))

theorem round_clip (z : EReal) :
    Ideal.liftRound Ideal.roundHalfEven (min ((127 : ℝ) : EReal) (max ((-127 : ℝ) : EReal) z)) = clipped z := by
  have r1 : Ideal.roundHalfEven (127 : ℝ) = 127 := by simpa using round_int 127
  have r2 : Ideal.roundHalfEven (-127 : ℝ) = -127 := by simpa using round_int (-127)
  have top : Ideal.liftRound Ideal.roundHalfEven ((127 : ℝ) : EReal) = ((127 : ℝ) : EReal) := by
    show (((Ideal.roundHalfEven (127 : ℝ) : ℤ) : ℝ) : EReal) = _
    rw [r1]; norm_num
  have bot : Ideal.liftRound Ideal.roundHalfEven ((-127 : ℝ) : EReal) = ((-127 : ℝ) : EReal) := by
    show (((Ideal.roundHalfEven (-127 : ℝ) : ℤ) : ℝ) : EReal) = _
    rw [r2]; norm_num
  have hlt : ((-127 : ℝ) : EReal) ≤ ((127 : ℝ) : EReal) := EReal.coe_le_coe_iff.mpr (by norm_num)
  unfold clipped
  induction z using EReal.rec with
  | bot =>
    show _ = min _ (max _ ⊥)
    rw [max_eq_left bot_le, min_eq_right hlt, bot]
  | top =>
    show _ = min _ (max _ ⊤)
    rw [max_eq_right le_top, min_eq_left le_top, top]
  | coe r =>
    show _ = min _ (max _ (((Ideal.roundHalfEven r : ℤ) : ℝ) : EReal))
    rcases le_total r (-127) with h | h
    · have h1 := round_le r (-127) (by push_cast; exact h)
      have h2 : ((Ideal.roundHalfEven r : ℤ) : ℝ) ≤ -127 := by exact_mod_cast h1
      rw [max_eq_left (EReal.coe_le_coe_iff.mpr h), max_eq_left (EReal.coe_le_coe_iff.mpr h2), min_eq_right hlt, bot]
    · have h1 := le_round r (-127) (by push_cast; exact h)
      have h2 : (-127 : ℝ) ≤ ((Ideal.roundHalfEven r : ℤ) : ℝ) := by exact_mod_cast h1
      rw [max_eq_right (EReal.coe_le_coe_iff.mpr h), max_eq_right (EReal.coe_le_coe_iff.mpr h2)]
      rcases le_total r 127 with g | g
      · have g1 := round_le r 127 (by push_cast; exact g)
        have g2 : ((Ideal.roundHalfEven r : ℤ) : ℝ) ≤ 127 := by exact_mod_cast g1
        rw [min_eq_right (EReal.coe_le_coe_iff.mpr g), min_eq_right (EReal.coe_le_coe_iff.mpr g2)]
        rfl
      · have g1 := le_round r 127 (by push_cast; exact g)
        have g2 : (127 : ℝ) ≤ ((Ideal.roundHalfEven r : ℤ) : ℝ) := by exact_mod_cast g1
        rw [min_eq_left (EReal.coe_le_coe_iff.mpr g), min_eq_left (EReal.coe_le_coe_iff.mpr g2), top]

/-- The kernel's code is the reference's. -/
theorem code_eq (x s : EReal) : code x s = clipped (Ideal.div x s) := by
  unfold code
  rw [hi_eq, lo_eq]
  exact round_clip _

/-- A code is a whole number from -127 to 127. -/
theorem clipped_int (z : EReal) : ∃ k : ℤ, -127 ≤ k ∧ k ≤ 127 ∧ clipped z = ((k : ℝ) : EReal) := by
  have hlt : ((-127 : ℝ) : EReal) ≤ ((127 : ℝ) : EReal) := EReal.coe_le_coe_iff.mpr (by norm_num)
  unfold clipped
  induction z using EReal.rec with
  | bot =>
    refine ⟨-127, le_rfl, by norm_num, ?_⟩
    show min _ (max _ ⊥) = _
    rw [max_eq_left bot_le, min_eq_right hlt]
    norm_num
  | top =>
    refine ⟨127, by norm_num, le_rfl, ?_⟩
    show min _ (max _ ⊤) = _
    rw [max_eq_right le_top, min_eq_left le_top]
    norm_num
  | coe r =>
    refine ⟨min 127 (max (-127) (Ideal.roundHalfEven r)), by omega, by omega, ?_⟩
    show min _ (max _ (((Ideal.roundHalfEven r : ℤ) : ℝ) : EReal)) = _
    push_cast
    rw [EReal.coe_strictMono.monotone.map_min, EReal.coe_strictMono.monotone.map_max, EReal.coe_neg]

/-- The byte kept of a code's 32-bit integer is the code as an 8-bit integer. -/
theorem word_eq (x s : EReal) : word x s = FloatOps.fptosi (F := Ideal) (φ := .f32) 8 (clipped (Ideal.div x s)) := by
  unfold word
  rw [code_eq]
  obtain ⟨k, h1, h2, e⟩ := clipped_int (Ideal.div x s)
  rw [e]
  have hk : (if (0 : ℝ) ≤ (k : ℝ) then ⌊(k : ℝ)⌋ else ⌈(k : ℝ)⌉) = k := by simp
  show BitVec.setWidth 8 (BitVec.ofInt 32 (max (-(2 ^ (32 - 1) : Nat)) (min ((2 ^ (32 - 1) : Nat) - 1) (if (0 : ℝ) ≤ (k : ℝ) then ⌊(k : ℝ)⌋ else ⌈(k : ℝ)⌉))))
    = BitVec.ofInt 8 (max (-(2 ^ (8 - 1) : Nat)) (min ((2 ^ (8 - 1) : Nat) - 1) (if (0 : ℝ) ≤ (k : ℝ) then ⌊(k : ℝ)⌋ else ⌈(k : ℝ)⌉)))
  rw [hk]
  clear hk e
  interval_cases k <;> rfl

end Cert.QuantiseIdeal.Quant

end
-- ==== Proof.QRef.lean ====
/- What the quantiser's reference leaves at one index: the rotated query, the scale of its head and block, and its code. -/
module

public import proofs.«01_k».proof.Proof.Gen.QuantiseReferenceIdeal.Frame
public import proofs.«01_k».proof.Proof.Gen.QuantiseReferenceIdeal.Value
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.ShloMosaic.Tactic Idealize.SL.Sem

namespace Cert.QuantiseReferenceIdeal.Quant

open Cert.QuantiseReferenceIdeal Cert.QuantiseReferenceIdeal.Gen Cert.QuantiseReferenceIdeal.Facts

section

variable (q : FVec Ideal S12x2304x16x128 .bf16) (cs sn : FVec Ideal S12x2304x128 .f32)

/-- The rotated queries, the positions split into blocks of 128. -/
def turnedA : FVec Ideal S12x18x128x16x128 .f32 :=
  shapeCast S12x18x128x16x128 (addf
    (mulf (extf .f32 q bitsLt_bf16_f32) (broadcastInDim S12x2304x16x128 ![0, 1, 2, 3] bcast_S12x2304x1x128_S12x2304x16x128_0_1_2_3 (broadcastInDim S12x2304x1x128 ![0, 1, 3] bcast_S12x2304x128_S12x2304x1x128_0_1_3 cs)))
    (mulf (concatenate S12x2304x16x128 3 [⟨S12x2304x16x64, extractStridedSlice S12x2304x16x64 ![0, 0, 0, 64] (extf .f32 q bitsLt_bf16_f32) slices_S12x2304x16x128_S12x2304x16x64_0_0_0_64⟩, ⟨S12x2304x16x64, extractStridedSlice S12x2304x16x64 ![0, 0, 0, 0] (extf .f32 q bitsLt_bf16_f32) slices_S12x2304x16x128_S12x2304x16x64_0_0_0_0⟩] concatenates_S12x2304x16x64_S12x2304x16x64_S12x2304x16x128_d3)
      (broadcastInDim S12x2304x16x128 ![0, 1, 2, 3] bcast_S12x2304x1x128_S12x2304x16x128_0_1_2_3 (broadcastInDim S12x2304x1x128 ![0, 1, 3] bcast_S12x2304x128_S12x2304x1x128_0_1_3 sn))))
    shapeCasts_S12x2304x16x128_S12x18x128x16x128

/-- The largest absolute values over a block's rows and lanes. -/
def bigA (X : FVec Ideal S12x18x128x16x128 .f32) : FVec Ideal S12x18x16 .f32 :=
  Host.reduce FloatOps.maximumf (Host.absf X) (constant S_ .f32 0xFF800000#32) reducesTo_S12x18x128x16x128_S12x18x16_d2_4 h_S_

/-- The scales. -/
def scaleA (M : FVec Ideal S12x18x16 .f32) : FVec Ideal S12x18x16 .f32 :=
  select (cmpf .oeq M (broadcastInDim S12x18x16 ![] bcast_S_S12x18x16 (constant S_ .f32 0x00000000#32)))
    (broadcastInDim S12x18x16 ![] bcast_S_S12x18x16 (constant S_ .f32 0x3F800000#32))
    (Host.divf M (broadcastInDim S12x18x16 ![] bcast_S_S12x18x16 (constant S_ .f32 0x42FE0000#32)))

/-- The codes. -/
def codeA (X : FVec Ideal S12x18x128x16x128 .f32) (S : FVec Ideal S12x18x16 .f32) : FVec Ideal S12x18x128x16x128 .f32 :=
  minimumf (broadcastInDim S12x18x128x16x128 ![] bcast_S_S12x18x128x16x128 (sitofp .f32 (constantI S_ 32 127#32)))
    (maximumf (broadcastInDim S12x18x128x16x128 ![] bcast_S_S12x18x128x16x128 (sitofp .f32 (constantI S_ 32 4294967169#32)))
      (Host.roundeven (Host.divf X (broadcastInDim S12x18x128x16x128 ![0, 1, 2, 3, 4] bcast_S12x18x1x16x1_S12x18x128x16x128_0_1_2_3_4 (broadcastInDim S12x18x1x16x1 ![0, 1, 3] bcast_S12x18x16_S12x18x1x16x1_0_1_3 S)))))

/-- The scales on all lanes. -/
def lanesA (S : FVec Ideal S12x18x16 .f32) : FVec Ideal S12x18x16x128 .f32 :=
  broadcastInDim S12x18x16x128 ![0, 1, 2, 3] bcast_S12x18x16x1_S12x18x16x128_0_1_2_3 (broadcastInDim S12x18x16x1 ![0, 1, 2] bcast_S12x18x16_S12x18x16x1_0_1_2 S)

/-- The codes with each head's rows together. -/
def headsA (C : FVec Ideal S12x18x128x16x128 .f32) : FVec Ideal S12x18x16x128x128 .bf16 :=
  truncf .bf16 (transpose S12x18x16x128x128 [0, 1, 3, 2, 4] C transposes_S12x18x128x16x128_S12x18x16x128x128_0_1_3_2_4) bitsLt_bf16_f32

/-- The codes by position. -/
def flatA (C : FVec Ideal S12x18x128x16x128 .f32) : FVec Ideal S12x2304x16x128 .f32 :=
  shapeCast S12x2304x16x128 C shapeCasts_S12x18x128x16x128_S12x2304x16x128

theorem turnedA_at (b : Fin 12) (g : Fin 18) (r : Fin 128) (h : Fin 16) (l : Fin 128) (n : Fin 2304) (hn : n.val = 128 * g.val + r.val) :
    turnedA q cs sn (ix5 b g r h l) = q (ix4 b n h l) * cs (ix3 b n l) + q (ix4 b n h ⟨(l.val + 64) % 128, Nat.mod_lt _ (by norm_num)⟩) * sn (ix3 b n l) := by
  obtain ⟨n, hlt⟩ := n
  obtain rfl : n = g.val * 128 + r.val := by dsimp only at hn; omega
  pointwise [turnedA]
  split_ifs with hl <;> exact congrArg (fun z : Fin 128 => q (ix4 b ⟨g.val * 128 + r.val, hlt⟩ h l) * cs (ix3 b ⟨g.val * 128 + r.val, hlt⟩ l)
    + q (ix4 b ⟨g.val * 128 + r.val, hlt⟩ h z) * sn (ix3 b ⟨g.val * 128 + r.val, hlt⟩ l)) (Fin.ext (by dsimp only; omega))

theorem scaleA_at (M : FVec Ideal S12x18x16 .f32) (i : S12x18x16.Idx) :
    scaleA M i = if M i = 0 then 1 else Ideal.div (M i) (Ideal.ofBits FTy.f32 1123942400#32) := by
  pointwise [scaleA]

theorem codeA_at (X : FVec Ideal S12x18x128x16x128 .f32) (S : FVec Ideal S12x18x16 .f32) (b : Fin 12) (g : Fin 18) (r : Fin 128) (h : Fin 16) (l : Fin 128) :
    codeA X S (ix5 b g r h l) = min (((127#32).toInt : ℝ) : EReal) (max (((4294967169#32).toInt : ℝ) : EReal)
      (Ideal.liftRound Ideal.roundHalfEven (Ideal.div (X (ix5 b g r h l)) (S (ix3 b g h))))) := by
  pointwise [codeA]
  rfl

theorem lanesA_at (S : FVec Ideal S12x18x16 .f32) (b : Fin 12) (g : Fin 18) (h : Fin 16) (l : Fin 128) : lanesA S (ix4 b g h l) = S (ix3 b g h) := by
  pointwise [lanesA]

theorem headsA_at (C : FVec Ideal S12x18x128x16x128 .f32) (b : Fin 12) (g : Fin 18) (r : Fin 128) (h : Fin 16) (l : Fin 128) :
    headsA C (ix5 b g h r l) = C (ix5 b g r h l) := by
  pointwise [headsA]

theorem flatA_at (C : FVec Ideal S12x18x128x16x128 .f32) (b : Fin 12) (n : Fin 2304) (h : Fin 16) (l : Fin 128) :
    flatA C (ix4 b n h l) = C (ix5 b ⟨n.val / 128, by omega⟩ ⟨n.val % 128, by omega⟩ h l) := by
  pointwise [flatA]

/-- The entries of the rotated array that one maximum runs over. -/
theorem fiber (j : S12x18x16.Idx) (i : S12x18x128x16x128.Idx) :
    reducesTo_S12x18x128x16x128_S12x18x16_d2_4.drop i = j ↔ ∃ k : Fin 128 × Fin 128, (ix5 (j 0) (j 1) k.2 (j 2) k.1 : S12x18x128x16x128.Idx) = i := by
  constructor
  · intro e
    refine ⟨(i 4, i 2), ?_⟩
    funext a; apply Fin.ext
    match a with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => rfl
  · rintro ⟨k, rfl⟩
    funext b
    apply Fin.ext
    match b with
    | ⟨0, _⟩ => rfl
    | ⟨1, _⟩ => rfl
    | ⟨2, _⟩ => rfl

/-- A maximum over pairs is the maximum of the maxima. -/
theorem fold_pairs {α β : Type} [Fintype α] [Fintype β] (z : EReal) (f : α × β → EReal) :
    (Finset.univ : Finset (α × β)).fold max z f = Finset.univ.fold max z fun a => Finset.univ.fold max z fun b => f (a, b) := by
  refine le_antisymm ?_ ?_
  · refine Finset.fold_max_le _ |>.mpr ⟨Finset.le_fold_max _ |>.mpr (.inl le_rfl), fun k _ => ?_⟩
    exact Finset.le_fold_max _ |>.mpr (.inr ⟨k.1, Finset.mem_univ _, Finset.le_fold_max _ |>.mpr (.inr ⟨k.2, Finset.mem_univ _, le_rfl⟩)⟩)
  · refine Finset.fold_max_le _ |>.mpr ⟨Finset.le_fold_max _ |>.mpr (.inl le_rfl), fun a _ => ?_⟩
    refine Finset.fold_max_le _ |>.mpr ⟨Finset.le_fold_max _ |>.mpr (.inl le_rfl), fun b _ => ?_⟩
    exact Finset.le_fold_max _ |>.mpr (.inr ⟨(a, b), Finset.mem_univ _, le_rfl⟩)

theorem bigA_at (X : FVec Ideal S12x18x128x16x128 .f32) (b : Fin 12) (g : Fin 18) (h : Fin 16) :
    bigA X (ix3 b g h) = Finset.univ.fold max (Ideal.ofBits FTy.f32 4286578688#32) fun l : Fin 128 =>
      Finset.univ.fold max (Ideal.ofBits FTy.f32 4286578688#32) fun r : Fin 128 => FloatOps.absf (F := Ideal) (φ := .f32) (X (ix5 b g r h l)) := by
  unfold bigA
  rw [Host.reduce_eq_fold]
  refine (Finset.fold_filter_eq_fold_of_fiber max _ (fun k : Fin 128 × Fin 128 => (ix5 b g k.2 h k.1 : S12x18x128x16x128.Idx))
    (fun _ _ e => Prod.ext (congrFun e 4) (congrFun e 2)) (fiber (ix3 b g h)) _ _).trans ?_
  exact fold_pairs _ _

end

variable (m : (ℓ : Loc nD τ sig) → Buf (Elt Ideal) ℓ) (c : Dev nD)

abbrev aq : FVec Ideal S12x2304x16x128 .bf16 := m ((c.tc : Thread nD τ).loc main_arg0)
abbrev ac : FVec Ideal S12x2304x128 .f32 := m ((c.tc : Thread nD τ).loc main_arg1)
abbrev asn : FVec Ideal S12x2304x128 .f32 := m ((c.tc : Thread nD τ).loc main_arg2)

/-- What the program's buffers hold when the last call is reached: the scales on all lanes. -/
theorem scales_held : V m c main_v25 = lanesA (scaleA (bigA (turnedA (aq m c) (ac m c) (asn m c)))) := by
  unfold V
  after_reads_simp
  simp -implicitDefEqProofs only [StableHlo.TRef.toBuf, StableHlo.TRef.ofBuf, cast_cast, cast_eq]
  rfl

/-- The codes with each head's rows together. -/
theorem heads_held : V m c main_v27 = headsA (codeA (turnedA (aq m c) (ac m c) (asn m c)) (scaleA (bigA (turnedA (aq m c) (ac m c) (asn m c))))) := by
  unfold V
  after_reads_simp
  simp -implicitDefEqProofs only [StableHlo.TRef.toBuf, StableHlo.TRef.ofBuf, cast_cast, cast_eq]
  rfl

/-- The codes by position. -/
theorem flat_held : V m c main_v28 = flatA (codeA (turnedA (aq m c) (ac m c) (asn m c)) (scaleA (bigA (turnedA (aq m c) (ac m c) (asn m c))))) := by
  unfold V
  after_reads_simp
  simp -implicitDefEqProofs only [StableHlo.TRef.toBuf, StableHlo.TRef.ofBuf, cast_cast, cast_eq]
  rfl

/-- The last call's one point takes and leaves the whole arrays. -/
theorem idx : ∀ t : Fin cfg0.N, win0_0.index t = ![0, 0, 0, 0] ∧ win0_1.index t = ![0, 0, 0, 0] :=
  (by decide +kernel : ∀ t : Fin grid0.N, _)

/-- So at an index of the result it reads the argument's element of that index. -/
theorem through (W : Buf (Elt Ideal) ((c.tc : Thread nD τ).loc main_v28)) (t : Fin cfg0.N) (y : S12x2304x16x128.Idx) :
    View.ld (Val := Elt Ideal) (e' := .f32) (S := S12x2304x16x128) (((cfg0.win 0).blk t).view.read (Elt Ideal) W) r0_0 (Cert.QuantiseReferenceIdeal.Value.ix1_0 y)
      = W ((win0_1.blk t).view.emb y) := by
  obtain ⟨i0, i1⟩ := idx t
  refine congrArg W (funext fun a => Fin.ext ?_)
  fin_cases a <;> blk_simp [i0, i1]
  · exact (by omega : 0 + 1 * (y 0).val = (y 0).val)
  · exact (by omega : 0 + 1 * (y 1).val = (y 1).val)
  · exact (by omega : 0 + 1 * (y 2).val = (y 2).val)
  · exact (by omega : 0 + 1 * (y 3).val = (y 3).val)

/-- The last call turns the codes by position into bytes. -/
theorem final1 : (dats m 0 c).arrAt 1 cfg0.N = fun i : S12x2304x16x128.Idx => FloatOps.fptosi (F := Ideal) (φ := .f32) 8 ((V m c main_v28 : FVec Ideal S12x2304x16x128 .f32) i) := by
  refine (dats m 0 c).arrAt_eq_of_covers 1 _ (by decide +kernel) fun t _ y => ?_
  blk_simp
  rw [after0_1]
  refine (Cert.QuantiseReferenceIdeal.Value.canon1_eq _ y).trans ?_
  exact congrArg (FloatOps.fptosi (F := Ideal) (φ := .f32) 8) (through c (V m c main_v28) t y)

end Cert.QuantiseReferenceIdeal.Quant

end
-- ==== Proof.QEq.lean ====
/- The quantiser's reference leaves the arrays that the kernel leaves. -/
module

public import proofs.«01_k».proof.Proof.QArray
public import proofs.«01_k».proof.Proof.QRound
public import proofs.«01_k».proof.Proof.QRef

@[expose] public section

set_option maxRecDepth 16384

noncomputable section

open Idealize.ShloMosaic Idealize.ShloMosaic.TcCoe Idealize.SL.Sem

namespace Cert.QuantiseEq

open Cert.QuantiseIdeal Cert.QuantiseIdeal.Quant
open Cert.QuantiseReferenceIdeal.Quant (turnedA bigA scaleA codeA lanesA headsA flatA turnedA_at bigA_at scaleA_at codeA_at lanesA_at headsA_at flatA_at)

variable (q : FVec Ideal S12x2304x16x128 .bf16) (cs sn : FVec Ideal S12x2304x128 .f32)

theorem big_eq (b : Fin 12) (g : Fin 18) (h : Fin 16) : bigA (turnedA q cs sn) (ix3 b g h) = largest q cs sn b g h := by
  rw [bigA_at]
  unfold largest
  have e : ∀ l r : Fin 128, turnedA q cs sn (ix5 b g r h l) = turned q cs sn b (pos g r) h l := fun l r =>
    turnedA_at q cs sn b g r h l (pos g r) rfl
  simp only [e]

theorem scale_eq (b : Fin 12) (g : Fin 18) (h : Fin 16) : scaleA (bigA (turnedA q cs sn)) (ix3 b g h) = scaleOf (largest q cs sn b g h) := by
  rw [scaleA_at, big_eq]
  rfl

theorem clipped_eq (b : Fin 12) (g : Fin 18) (r : Fin 128) (h : Fin 16) (l : Fin 128) (n : Fin 2304) (hn : n.val = 128 * g.val + r.val) :
    codeA (turnedA q cs sn) (scaleA (bigA (turnedA q cs sn))) (ix5 b g r h l)
      = clipped (Ideal.div (turned q cs sn b n h l) (scaleOf (largest q cs sn b g h))) := by
  rw [codeA_at, hi_eq, lo_eq, scale_eq, turnedA_at q cs sn b g r h l n hn]
  rfl

/-- The scales. -/
theorem scales : lanesA (scaleA (bigA (turnedA q cs sn))) = fun i : S12x18x16x128.Idx => scaleOf (largest q cs sn (i 0) (i 1) (i 2)) := by
  funext i
  have e : i = ix4 (i 0) (i 1) (i 2) (i 3) := by
    funext a
    fin_cases a <;> rfl
  exact (congrArg _ e).trans ((lanesA_at _ (i 0) (i 1) (i 2) (i 3)).trans (scale_eq q cs sn _ _ _))

/-- The codes as numbers. -/
theorem heads : headsA (codeA (turnedA q cs sn) (scaleA (bigA (turnedA q cs sn))))
    = fun i : S12x18x16x128x128.Idx => code (turned q cs sn (i 0) (pos (i 1) (i 3)) (i 2) (i 4)) (scaleOf (largest q cs sn (i 0) (i 1) (i 2))) := by
  funext i
  have e : i = ix5 (i 0) (i 1) (i 2) (i 3) (i 4) := by
    funext a
    fin_cases a <;> rfl
  refine (congrArg _ e).trans ((headsA_at _ (i 0) (i 1) (i 3) (i 2) (i 4)).trans ?_)
  exact (clipped_eq q cs sn (i 0) (i 1) (i 3) (i 2) (i 4) (pos (i 1) (i 3)) rfl).trans (code_eq _ _).symm

/-- The codes as bytes. -/
theorem bytes : (fun i : S12x2304x16x128.Idx => FloatOps.fptosi (F := Ideal) (φ := .f32) 8 (flatA (codeA (turnedA q cs sn) (scaleA (bigA (turnedA q cs sn)))) i))
    = fun i : S12x2304x16x128.Idx => word (turned q cs sn (i 0) (i 1) (i 2) (i 3)) (scaleOf (largest q cs sn (i 0) (blockOf (i 1)) (i 2))) := by
  funext i
  have e : i = ix4 (i 0) (i 1) (i 2) (i 3) := by
    funext a
    fin_cases a <;> rfl
  refine Eq.trans (congrArg (FloatOps.fptosi (F := Ideal) (φ := .f32) 8) ?_) (word_eq _ _).symm
  have hn : (i 1).val < 2304 := (i 1).isLt
  refine (congrArg _ e).trans ((flatA_at _ (i 0) (i 1) (i 2) (i 3)).trans ?_)
  exact clipped_eq q cs sn (i 0) (blockOf (i 1)) ⟨(i 1).val % 128, by omega⟩ (i 2) (i 3) (i 1) (by simp only [blockOf]; omega)

variable (m : (ℓ : Loc nD τ sig) → Buf (Elt Ideal) ℓ)
  (m' : (ℓ : Loc Cert.QuantiseReferenceIdeal.nD Cert.QuantiseReferenceIdeal.τ Cert.QuantiseReferenceIdeal.sig) → Buf (Elt Ideal) ℓ) (c : Dev nD)

/-- The three arrays that both programs leave, from the arrays launched. -/
abbrev B (i : S12x2304x16x128.Idx) : BitVec 8 :=
  word (turned (aq m c) (ac m c) (asn m c) (i 0) (i 1) (i 2) (i 3)) (scaleOf (largest (aq m c) (ac m c) (asn m c) (i 0) (blockOf (i 1)) (i 2)))
abbrev A (i : S12x18x16x128.Idx) : EReal := scaleOf (largest (aq m c) (ac m c) (asn m c) (i 0) (i 1) (i 2))
abbrev H (i : S12x18x16x128x128.Idx) : EReal :=
  code (turned (aq m c) (ac m c) (asn m c) (i 0) (pos (i 1) (i 3)) (i 2) (i 4)) (scaleOf (largest (aq m c) (ac m c) (asn m c) (i 0) (i 1) (i 2)))

section

variable (h0 : Cert.QuantiseReferenceIdeal.Quant.aq m' c = aq m c) (h1 : Cert.QuantiseReferenceIdeal.Quant.ac m' c = ac m c)
  (h2 : Cert.QuantiseReferenceIdeal.Quant.asn m' c = asn m c)
include h0 h1 h2

theorem ref_scales : Cert.QuantiseReferenceIdeal.Gen.V m' c Cert.QuantiseReferenceIdeal.main_v25 = A m c := by
  rw [Cert.QuantiseReferenceIdeal.Quant.scales_held, h0, h1, h2]
  exact scales _ _ _

theorem ref_heads : Cert.QuantiseReferenceIdeal.Gen.V m' c Cert.QuantiseReferenceIdeal.main_v27 = H m c := by
  rw [Cert.QuantiseReferenceIdeal.Quant.heads_held, h0, h1, h2]
  exact heads _ _ _

theorem ref_bytes : (Cert.QuantiseReferenceIdeal.Gen.dats m' 0 c).arrAt 1 Cert.QuantiseReferenceIdeal.cfg0.N = B m c := by
  rw [Cert.QuantiseReferenceIdeal.Quant.final1, Cert.QuantiseReferenceIdeal.Quant.flat_held, h0, h1, h2]
  exact bytes _ _ _

end

end Cert.QuantiseEq

end
-- ==== Proof.lean ====
module

public import proofs.«01_k».proof.Defs
public import proofs.«01_k».proof.Proof.Gen.Quantise.Frame
public import proofs.«01_k».proof.Proof.Gen.QuantiseIdeal.Value
public import proofs.«01_k».proof.Proof.Gen.QuantiseReferenceIdeal.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Finite
public import proofs.«01_k».proof.Proof.QEq
public import Idealize.ShloMosaic.Lib.Bf16PairInverse
public import Idealize.ShloMosaic.Adequacy
public import Idealize.ShloMosaic.Init

@[expose] public section

noncomputable section

namespace Cert.Proof

open Idealize.ShloMosaic Idealize.ShloMosaic.TcCoe Idealize.SL.Sem

/-- The kernel as printed runs, keeps its arguments and ends quiescent. -/
theorem frame_p : Cert.quiescent_Kernel := fun m ρ _ => Cert.Kernel.Gen.frame m ρ

/-- So does the kernel over the extended reals, -/
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ

/-- and the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
theorem frame_ri_finite : Cert.quiescent_ReferenceIdeal_pre_finite := fun m ρ _ => frame_ri m ρ trivial

/-- The kernel's one named constant is the printed `1/√128` over `log 2`. -/
theorem preserves : Cert.preserves_Kernel_KernelIdeal :=
  IdealRules.named_const.statement Cert.KernelIdeal.κ "scale_log2e" .f32 0x3E0293EE#32 (((11863283 / 134217728) * (Real.log 2)⁻¹ : ℝ) : EReal) rfl

/-- The precondition makes every entry the scores read a real number. -/
theorem real_of_pre (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.Score.Real (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) where
  r0 := Cert.Pre_finite.Gen.real_0 _ _ _ _ _ (h c).1
  r1 := Cert.Pre_finite.Gen.real_1 _ _ _ _ _ (h c).2.1
  r2 := Cert.Pre_finite.Gen.real_2 _ _ _ _ _ (h c).2.2.1
  r3 := Cert.Pre_finite.Gen.real_3 _ _ _ _ _ (h c).2.2.2

/-- The reference's array is the attention `G` of arguments that agree. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (r : Cert.Score.Real (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v40 m' c = Cert.KernelIdeal.Attn.G m c := by
  rw [Cert.ReferenceIdeal.Attn.res_eq, h0, h1, h2, h3, h4]
  funext j
  have hj : (j 2).val < 2048 := (j 2).isLt
  have e : j = ix3 (Cert.KernelIdeal.Attn.ib j) (Cert.KernelIdeal.Attn.iq j) (⟨(j 2).val, hj⟩ : Fin 2048) := by
    funext a
    fin_cases a <;> rfl
  refine (congrArg _ e).trans ?_
  exact Cert.ReferenceIdeal.Attn.res_attn _ _ _ _ _ (Cert.KernelIdeal.Attn.ib j) (Cert.KernelIdeal.Attn.iq j) (Cert.KernelIdeal.Attn.ih j)
    (Cert.KernelIdeal.Attn.ig j) (Cert.KernelIdeal.Attn.id j) _
    (by simp only [Cert.KernelIdeal.Attn.ih, Cert.KernelIdeal.Attn.ig, Cert.KernelIdeal.Attn.id]; omega) _
    (fun k => Cert.Score.score_real r _ _ _ _ k)

/-- THE VALUE CLAIM: the attention kernel and the reference end with the same array. -/
theorem algebraic : Cert.algebraic_KernelIdeal_ReferenceIdeal_pre_finite := by
  intro m ρ m' ρ' hpre hagree
  refine ⟨fun c => Cert.KernelIdeal.Attn.G m c, ?_, ?_⟩
  · exact (θ_run Cert.KernelIdeal.defs _ _).mono (fun _ h c => ⟨(h c).1.trans (Cert.KernelIdeal.Attn.final m c (real_of_pre m hpre c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4⟩ := hagree c
    exact ref_eq m m' c (real_of_pre m hpre c) h0 h1 h2 h3 h4

/-- The query quantiser runs, keeps its arguments and ends quiescent, as printed, over the extended reals, and so does its
    reference. -/
theorem frame_q : Cert.quiescent_Quantise := fun m ρ _ => Cert.Quantise.Gen.frame m ρ
theorem frame_qi : Cert.quiescent_QuantiseIdeal := fun m ρ _ => Cert.QuantiseIdeal.Gen.frame m ρ
theorem frame_qri : Cert.quiescent_QuantiseReferenceIdeal := fun m ρ _ => Cert.QuantiseReferenceIdeal.Gen.frame m ρ

open Cert.QuantiseIdeal IdealRules.bf16_pair in
/-- The words it takes apart and puts together are pairs of 16-bit floats. -/
theorem preserves_q : Cert.preserves_Quantise_QuantiseIdeal := ⟨statement S1x128x2x128 S1x128x1x128, statement S256x128 S128x128⟩

/-- THE QUANTISER'S VALUE CLAIM: it and its reference end with the same three arrays. -/
theorem algebraic_q : Cert.algebraic_QuantiseIdeal_QuantiseReferenceIdeal := by
  intro m ρ m' ρ' _ hagree
  refine ⟨fun c => Cert.QuantiseEq.B m c, fun c => Cert.QuantiseEq.A m c, fun c => Cert.QuantiseEq.H m c, ?_, ?_⟩
  · exact (θ_run Cert.QuantiseIdeal.defs _ _).mono (fun _ h c => ⟨(h c).1.trans (Cert.QuantiseIdeal.Quant.final3 m c),
        (h c).2.1.trans (Cert.QuantiseIdeal.Quant.final4 m c), (h c).2.2.1.trans (Cert.QuantiseIdeal.Quant.final5 m c), (h c).2.2.2⟩)
      (Cert.QuantiseIdeal.Value.run_blocks (F := Ideal) m ρ)
  · refine (θ_run Cert.QuantiseReferenceIdeal.defs _ _).mono (fun r h c => ?_) (Cert.QuantiseReferenceIdeal.Gen.run_main (F := Ideal) m' ρ')
    obtain ⟨h0, h1, h2⟩ := hagree c
    exact ⟨(Cert.QuantiseReferenceIdeal.Value.post1 m' r h c).trans (Cert.QuantiseEq.ref_bytes m m' c h0 h1 h2),
      ((h c).2 Cert.QuantiseReferenceIdeal.main_v25 (Pipeline.mem_restRefs_of _ (by decide) (by decide))).trans (Cert.QuantiseEq.ref_scales m m' c h0 h1 h2),
      ((h c).2 Cert.QuantiseReferenceIdeal.main_v27 (Pipeline.mem_restRefs_of _ (by decide) (by decide))).trans (Cert.QuantiseEq.ref_heads m m' c h0 h1 h2),
      Cert.QuantiseReferenceIdeal.Value.kept_main_arg0 m' r h c, Cert.QuantiseReferenceIdeal.Value.kept_main_arg1 m' r h c,
      Cert.QuantiseReferenceIdeal.Value.kept_main_arg2 m' r h c⟩

theorem claim : Cert.Claim :=
  ⟨Cert.Kernel.Gen.facts, Cert.KernelIdeal.Gen.facts, Cert.ReferenceIdeal.Gen.facts, Cert.Quantise.Gen.facts, Cert.QuantiseIdeal.Gen.facts,
    Cert.QuantiseReferenceIdeal.Gen.facts, Cert.Pre_finite.Gen.facts,
    frame_p, frame_pi, frame_pi_finite, frame_ri, frame_ri_finite, frame_q, frame_qi, frame_qri, preserves, algebraic, preserves_q, algebraic_q⟩

end Cert.Proof

end
